-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_2688" .f32 0x39C30C31#32 ((1 / 2688 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1024x1792 : Shape := ⟨3, ![48, 1024, 1792]⟩
abbrev S1x1 : Shape := ⟨2, ![1, 1]⟩
abbrev S1x1024x1792 : Shape := ⟨3, ![1, 1024, 1792]⟩
abbrev S16x1792 : Shape := ⟨2, ![16, 1792]⟩
abbrev S1024x1792 : Shape := ⟨2, ![1024, 1792]⟩
abbrev S64x16x1792 : Shape := ⟨3, ![64, 16, 1792]⟩
abbrev S1x16x1792 : Shape := ⟨3, ![1, 16, 1792]⟩
abbrev S1 : Shape := ⟨1, ![1]⟩
abbrev S1x1x1 : Shape := ⟨3, ![1, 1, 1]⟩
abbrev S48x1792x512 : Shape := ⟨3, ![48, 1792, 512]⟩
abbrev S48x64x1792 : Shape := ⟨3, ![48, 64, 1792]⟩
abbrev S1x512x1792 : Shape := ⟨3, ![1, 512, 1792]⟩
abbrev S1x1792x256 : Shape := ⟨3, ![1, 1792, 256]⟩
abbrev S1x32x1792 : Shape := ⟨3, ![1, 32, 1792]⟩
abbrev S1x512x128 : Shape := ⟨3, ![1, 512, 128]⟩
abbrev S512x128 : Shape := ⟨2, ![512, 128]⟩
abbrev S32x16x128 : Shape := ⟨3, ![32, 16, 128]⟩
abbrev S32x128 : Shape := ⟨2, ![32, 128]⟩
abbrev S1x32x128 : Shape := ⟨3, ![1, 32, 128]⟩
abbrev S32x1x128 : Shape := ⟨3, ![32, 1, 128]⟩
abbrev S64x8x128 : Shape := ⟨3, ![64, 8, 128]⟩
abbrev S64x128 : Shape := ⟨2, ![64, 128]⟩
abbrev S256x128 : Shape := ⟨2, ![256, 128]⟩
abbrev S128x256 : Shape := ⟨2, ![128, 256]⟩
abbrev S1x128x256 : Shape := ⟨3, ![1, 128, 256]⟩
abbrev S48x1792x64 : Shape := ⟨3, ![48, 1792, 64]⟩
abbrev S_ : Shape := ⟨0, ![]⟩

abbrev nBuf : Space → Nat
  | .hbm => 6
  | .vmem => 9
  | .smem => 2
  | _ => 0

abbrev bufTy : (tb : Table) → Fin (tcTables nBuf tb) → BufTy
  | .hbm, ⟨0, _⟩ => ⟨S48x1024x1792, .bf16⟩
  | .hbm, ⟨1, _⟩ => ⟨S1x1, .f32⟩
  | .hbm, ⟨2, _⟩ => ⟨S48x1792x512, .i8⟩
  | .hbm, ⟨3, _⟩ => ⟨S48x64x1792, .fp8e4m3⟩
  | .hbm, ⟨4, _⟩ => ⟨S48x1792x64, .fp8e4m3⟩
  | .hbm, ⟨5, _⟩ => ⟨S_, .f32⟩
  | .local _ .vmem, ⟨0, _⟩ => ⟨S1x1024x1792, .bf16⟩
  | .local _ .vmem, ⟨1, _⟩ => ⟨S1x1024x1792, .bf16⟩
  | .local _ .vmem, ⟨2, _⟩ => ⟨S16x1792, .bf16⟩
  | .local _ .vmem, ⟨3, _⟩ => ⟨S1x512x1792, .bf16⟩
  | .local _ .vmem, ⟨4, _⟩ => ⟨S1x512x1792, .bf16⟩
  | .local _ .vmem, ⟨5, _⟩ => ⟨S1x1792x256, .i8⟩
  | .local _ .vmem, ⟨6, _⟩ => ⟨S1x1792x256, .i8⟩
  | .local _ .vmem, ⟨7, _⟩ => ⟨S1x32x1792, .fp8e4m3⟩
  | .local _ .vmem, ⟨8, _⟩ => ⟨S1x32x1792, .fp8e4m3⟩
  | .local _ .smem, ⟨0, _⟩ => ⟨S1x1, .f32⟩
  | .local _ .smem, ⟨1, _⟩ => ⟨S1x1, .f32⟩
  | _, _ => ⟨S48x1024x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc0_stg1_0 : Ref sig .tc := ⟨.smem, 0, rfl⟩
abbrev cc1_stg0_0 : Ref sig .tc := ⟨.smem, 1, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v13 : BitVec 1 := Scalar.cmpi .eq arg0 c47_i32
  let v14 : BitVec 32 := Scalar.extui v13
  let c0_i32_7 : BitVec 32 := 0#32
  let v15 : BitVec 1 := Scalar.cmpi .ne v14 c0_i32_7
  v15

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![48, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x512x1792 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1792x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x1792 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "inv_2688" => some ((1 / 2688 : ℝ) : EReal)
  | _ => none
-- ==== ReferenceIdeal.lean ====
abbrev S48x1024x1792 : Shape := ⟨3, ![48, 1024, 1792]⟩
abbrev S48x512x1792 : Shape := ⟨3, ![48, 512, 1792]⟩
abbrev S48x64x1792 : Shape := ⟨3, ![48, 64, 1792]⟩
abbrev S1x1 : Shape := ⟨2, ![1, 1]⟩
abbrev S1x48x1024x1792 : Shape := ⟨4, ![1, 48, 1024, 1792]⟩
abbrev S1 : Shape := ⟨1, ![1]⟩
abbrev S1x1x1x1 : Shape := ⟨4, ![1, 1, 1, 1]⟩
abbrev S48x64x16x1792 : Shape := ⟨4, ![48, 64, 16, 1792]⟩
abbrev S48x64x1x1792 : Shape := ⟨4, ![48, 64, 1, 1792]⟩
abbrev S48x512x2x1792 : Shape := ⟨4, ![48, 512, 2, 1792]⟩
abbrev S48x512x1x1792 : Shape := ⟨4, ![48, 512, 1, 1792]⟩
abbrev S48x1792x512 : Shape := ⟨3, ![48, 1792, 512]⟩
abbrev S48x1792x64 : Shape := ⟨3, ![48, 1792, 64]⟩
abbrev S_ : Shape := ⟨0, ![]⟩

abbrev nBuf : Space → Nat
  | .hbm => 7
  | .vmem => 3
  | .smem => 1
  | _ => 0

abbrev bufTy : (tb : Table) → Fin (tcTables nBuf tb) → BufTy
  | .hbm, ⟨0, _⟩ => ⟨S48x1024x1792, .bf16⟩
  | .hbm, ⟨1, _⟩ => ⟨S48x512x1792, .i8⟩
  | .hbm, ⟨2, _⟩ => ⟨S48x64x1792, .fp8e4m3⟩
  | .hbm, ⟨3, _⟩ => ⟨S1x1, .f32⟩
  | .hbm, ⟨4, _⟩ => ⟨S48x1792x512, .i8⟩
  | .hbm, ⟨5, _⟩ => ⟨S48x1792x64, .fp8e4m3⟩
  | .hbm, ⟨6, _⟩ => ⟨S_, .f32⟩
  | .local _ .vmem, ⟨0, _⟩ => ⟨S48x1024x1792, .bf16⟩
  | .local _ .vmem, ⟨1, _⟩ => ⟨S48x512x1792, .i8⟩
  | .local _ .vmem, ⟨2, _⟩ => ⟨S48x64x1792, .fp8e4m3⟩
  | .local _ .smem, ⟨0, _⟩ => ⟨S1x1, .f32⟩
  | _, _ => ⟨S48x1024x1792, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S48x1024x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x512x1792 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x64x1792 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.BAmax.lean ====
/-
  The first kernel call (the maximum over the whole input): what its body leaves at each grid point, the
  proof data of its pipeline and the body obligation, from any contents `W` of the buffers at its entry.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.RegionArraysS

@[expose] public section

set_option maxRecDepth 16384

noncomputable section

namespace Cert.Kernel.Amax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))
/-- Core `c`'s buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_1, k0_cond2, e0]
    word_cmp
   : ∀ t : Fin grid0.N, cond0_1 (grid0.coords t) ↔ t.val % 48 = 47)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x1 .f32 := (Memref.whole cc0_stg1_0 : Memref sig .tc .smem S1x1 .f32).view
/-- Each window's current staging memref at point `t`, spelled as the pipeline passes it (`bodyAt0`), and its wholeness. -/
abbrev ms0_0 (t : Fin cfg0.N) : Memref sig .tc .vmem S1x1024x1792 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x1792 .bf16 := Memref.whole cc0_scratch0
/-- The scratch `arg3` the kernel carries between points, as a view: what it holds is stated through it. -/
abbrev VS0_0 : View sig .tc .vmem S16x1792 .bf16 := scM0_0.view

/-- What the invariant holds beside the scratch: the other kernel's buffers and the generator register. -/
def Rg (c : Dev nD) : sProp 𝕄 :=
  iprop(((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg0_0), ((c : Thread nD τ).loc cc1_stg0_0) ↦{fullShare} f)) ∗ (∃ r, prngReg c r))

/-- The invariant the region is entered with, the scratch first. -/
theorem PhiA0_eq (c : Dev nD) :
    (Pipeline.ΦA spec0 c : sProp 𝕄)
      = iprop(iprop((∃ d, owns (c : Thread nD τ) scM0_0 fullShare d)) ∗ Rg c) := by
  unfold Pipeline.ΦA Rg; rw [scopedRest0_eq]; simp only [scM0_0, owns_whole]
  exact Idealize.SL.BI.Entails.antisymm Idealize.SL.BI.sep_assoc Idealize.SL.BI.sep_assoc'

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : cond0_0 i) (hc1 : ¬cond0_1 i)
    (x0 : Vec F S1x1024x1792 .bf16) :
    Σ' (L1 : List (View.Piece (Elt F) S1x1 .f32)), { LS0 : List (View.Piece (Elt F) S16x1792 .bf16) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨[], ?_, fun xi1 E K => ?run⟩
  case run =>
    simp only [cc0_amax_eq_skeleton]; unfold cc0_amax_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 46: 46 of 48), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : ¬cond0_1 i)
    (x0 : Vec F S1x1024x1792 .bf16) (xs0 : Vec F S16x1792 .bf16) :
    Σ' (L1 : List (View.Piece (Elt F) S1x1 .f32)), { LS0 : List (View.Piece (Elt F) S16x1792 .bf16) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨[], ?_, fun xi1 E K => ?run⟩
  case run =>
    simp only [cc0_amax_eq_skeleton]; unfold cc0_amax_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 47), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) :
    Σ' (L1 : List (View.Piece (Elt F) S1x1 .f32)), { LS0 : List (View.Piece (Elt F) S16x1792 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨?_, ?_, fun E K => ?run⟩
  case run =>
    simp only [cc0_amax_eq_skeleton]; unfold cc0_amax_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : cond0_0 i) (hc1 : ¬cond0_1 i)
    (x0 : Vec F S1x1024x1792 .bf16) : Vec F S1x1 .f32 :=
  VO0_1.read (Elt F) (VO0_1.writes (Elt F) VO0_1.junk (kernelRun0_A c i arg1 harg1 arg2 harg2 arg3 harg3 hc0 hc1 x0).1)

/-- Case A's pieces for scratch `arg3`, which the kernel carries between points, cover it: 2 pieces of `S16x1792` tiling it (Lib/Ring.lean `Piece.tiledL`). -/
theorem scover0_A_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : cond0_0 i) (hc1 : ¬cond0_1 i)
    (x0 : Vec F S1x1024x1792 .bf16) (y : S16x1792.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S16x1792.size (by sl_kernel_rfl) y

/-- What case A leaves in scratch `arg3`: its pieces read back over junk. -/
def sout0_A_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : cond0_0 i) (hc1 : ¬cond0_1 i)
    (x0 : Vec F S1x1024x1792 .bf16) : Vec F S16x1792 .bf16 :=
  VS0_0.read (Elt F) (VS0_0.writes (Elt F) VS0_0.junk (kernelRun0_A c i arg1 harg1 arg2 harg2 arg3 harg3 hc0 hc1 x0).2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : ¬cond0_1 i)
    (x0 : Vec F S1x1024x1792 .bf16) (xs0 : Vec F S16x1792 .bf16) : Vec F S1x1 .f32 :=
  VO0_1.read (Elt F) (VO0_1.writes (Elt F) VO0_1.junk (kernelRun0_B c i arg1 harg1 arg2 harg2 arg3 harg3 hc0 hc1 x0 xs0).1)

/-- Case B's pieces for scratch `arg3`, which the kernel carries between points, cover it: 1 piece of `S16x1792` tiling it (Lib/Ring.lean `Piece.tiledL`). -/
theorem scover0_B_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : ¬cond0_1 i)
    (x0 : Vec F S1x1024x1792 .bf16) (xs0 : Vec F S16x1792 .bf16) (y : S16x1792.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S16x1792.size (by sl_kernel_rfl) y

/-- What case B leaves in scratch `arg3`: its pieces read back over junk. -/
def sout0_B_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : ¬cond0_1 i)
    (x0 : Vec F S1x1024x1792 .bf16) (xs0 : Vec F S16x1792 .bf16) : Vec F S16x1792 .bf16 :=
  VS0_0.read (Elt F) (VS0_0.writes (Elt F) VS0_0.junk (kernelRun0_B c i arg1 harg1 arg2 harg2 arg3 harg3 hc0 hc1 x0 xs0).2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) (y : S1x1.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-- What case C leaves in output 1's staging buffer: its pieces read back over junk. -/
def out0_C_1 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) : Vec F S1x1 .f32 :=
  VO0_1.read (Elt F) (VO0_1.writes (Elt F) VO0_1.junk (kernelRun0_C c i arg1 harg1 arg2 harg2 arg3 harg3 hc0 hc1 x0 xs0).1)

/-- Case C's pieces for scratch `arg3`, which the kernel carries between points, cover it: 1 piece of `S16x1792` tiling it (Lib/Ring.lean `Piece.tiledL`). -/
theorem scover0_C_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) (y : S16x1792.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S16x1792.size (by sl_kernel_rfl) y

/-- What case C leaves in scratch `arg3`: its pieces read back over junk. -/
def sout0_C_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) : Vec F S16x1792 .bf16 :=
  VS0_0.read (Elt F) (VS0_0.writes (Elt F) VS0_0.junk (kernelRun0_C c i arg1 harg1 arg2 harg2 arg3 harg3 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S16x1792 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk W c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk W c 0 ⟨0, hn⟩))
  | n + 1, hn =>
    if h0 : (n + 1) % 48 = 0 then
      if h1 : (n + 1) % 48 = 47 then
        False.elim (by have hN : n + 1 < 48 := lt_of_lt_of_eq hn (show cfg0.N = 48 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk W c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk W c 0 ⟨n + 1, hn⟩))
    else
      if h1 : (n + 1) % 48 = 47 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk W c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk W c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk W c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk W c 0 ⟨n + 1, hn⟩) (outsAt0 c n (Nat.lt_of_succ_lt hn)).2)

/-- `outsAt0` at a point of case A: that case's contents. -/
theorem outsAt0_A (c : Dev nD) (t : Fin cfg0.N) (h0 : t.val % 48 = 0) (h1 : ¬t.val % 48 = 47) :
    outsAt0 W c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk W c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk W c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 48 = 0) (h1 : ¬t.val % 48 = 47) :
    outsAt0 W c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk W c 0 t) (outsAt0 W c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk W c 0 t) (outsAt0 W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 48 = 0) (h1 : t.val % 48 = 47) :
    outsAt0 W c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk W c 0 t) (outsAt0 W c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk W c 0 t) (outsAt0 W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 W c n hn).2)) ∗ Rg c)

theorem PhiS_zero (c : Dev nD) (n : ℕ) (h : n ≤ cfg0.N) (hz : n = 0) : PhiS W c n h = Pipeline.ΦA spec0 c := by
  subst hz; rfl

/-- After point `n` (before point `n + 1`): the carried scratch at that point's contents. -/
theorem PhiS_succ (c : Dev nD) (n : ℕ) (hn : n < cfg0.N) :
    PhiS W c (n + 1) hn = iprop(iprop(owns (c : Thread nD τ) scM0_0 fullShare ((outsAt0 W c n hn).2)) ∗ Rg c) := rfl

/-- Before a point that is not the first: the carried scratch at what the point before left. -/
theorem PhiS_pos (c : Dev nD) (n : ℕ) (h : n ≤ cfg0.N) (hz : n ≠ 0) :
    PhiS W c n h = iprop(iprop(owns (c : Thread nD τ) scM0_0 fullShare ((outsAt0 W c (n - 1) (by omega)).2)) ∗ Rg c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => (outsAt0 W c t.val t.isLt).1
  Φ t := PhiS W c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat W c).A w = V W c (Pipeline.arrRef spec0 w) := by
  dsimp only [dat]

/-- The invariant at a point's start (the proof data at `t.castSucc`), restated at `t.val`. -/
theorem PhiS_castSucc (c : Dev nD) (t : Fin cfg0.N) :
    (dat W c).Φ t.castSucc = PhiS W c t.val (Nat.le_of_lt t.isLt) := by
  dsimp only [dat]; exact Pipeline.Dat.Φ_castSucc (PhiS W c) t

/-- What the body leaves, window by window (the proof data's `match` reduced by `dsimp`). -/
theorem after0_0 (c : Dev nD) (t : Fin cfg0.N) : (dat W c).after 0 t = iblk W c 0 t := by dsimp only [dat]
theorem after0_1 (c : Dev nD) (t : Fin cfg0.N) : (dat W c).after 1 t = (outsAt0 W c t.val t.isLt).1 := by dsimp only [dat]

/-- Each input's current staging buffer holds its block at every point, fetched there or not (`beforeK_W_of`). -/
theorem before0_0 (c : Dev nD) (t : Fin cfg0.N) (d) : (dat W c).before 0 t d = iblk W c 0 t :=
  before0_0_of W (dat W c) (A_eq W c 0) (after0_0 W c) t d

/-! ## The body obligation, at a generic point -/

/-- What the body is called with at point `t` (Lib/Pipeline.lean `BodyObligation`'s precondition, the windows one by one), -/
def bodyPre (c : Dev nD) (t : Fin cfg0.N) : sProp 𝕄 :=
  iprop((dat W c).Φ t.castSucc ∗ (dat W c).owesAt () t.castSucc
    ∗ (∃ d, owns (c : Thread nD τ) (ms0_0 t) fullShare ((dat W c).before 0 t d))
    ∗ (∃ d, owns (c : Thread nD τ) (ms0_1 t) fullShare ((dat W c).before 1 t d)))

/-- and what it returns. -/
def bodyPost (c : Dev nD) (t : Fin cfg0.N) : sProp 𝕄 :=
  iprop((dat W c).Φ t.succ ∗ (dat W c).owesAt () t.succ
    ∗ (dat W c).leavesExact 0 t
    ∗ (dat W c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0]
  rw [show (dat W c).owesAt () t.succ = (dat W c).owesAt () t.castSucc from rfl]
  rw [show (dat W c).Φ t.succ = PhiS W c (t.val + 1) t.isLt from rfl, PhiS_succ]
  have hN : t.val < 48 := lt_of_lt_of_eq t.isLt (show cfg0.N = 48 from N_0)
  by_cases h0 : t.val % 48 = 0
  · by_cases h1 : t.val % 48 = 47
    · exfalso; omega
    · rw [show (dat W c).leavesExact 0 t = owns (c : Thread nD τ) (ms0_0 t) fullShare ((dat W c).after 0 t) from by
      unfold Dat.leavesExact; rw [liveAt0_0 t], after0_0]
      rw [Dat.leavesExact_idle (dat W c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc W c t, PhiS_zero W c _ _ hz, PhiA0_eq]
        rw [outsAt0_A W c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk W c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; have hN : t.val < 48 := lt_of_lt_of_eq t.isLt (show cfg0.N = 48 from N_0); omega
  · by_cases h1 : t.val % 48 = 47
    · rw [show (dat W c).leavesExact 0 t = owns (c : Thread nD τ) (ms0_0 t) fullShare ((dat W c).after 0 t) from by
      unfold Dat.leavesExact; rw [liveAt0_0 t], after0_0]
      rw [show (dat W c).leavesExact 1 t = owns (c : Thread nD τ) (ms0_1 t) fullShare ((dat W c).after 1 t) from by
      unfold Dat.leavesExact; rw [liveAt0_1_C t (fun h => h0 ((hcond0_0 t).mp h)) ((hcond0_1 t).mpr h1)], after0_1]
      by_cases hz : t.val = 0
      · exfalso; have hN : t.val < 48 := lt_of_lt_of_eq t.isLt (show cfg0.N = 48 from N_0); omega
      · rw [PhiS_castSucc W c t, PhiS_pos W c _ _ hz]
        rw [outsAt0_C W c t h0 h1]
        unfold out0_C_1 sout0_C_0; (try dsimp only)
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk W c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat W c).leavesExact 0 t = owns (c : Thread nD τ) (ms0_0 t) fullShare ((dat W c).after 0 t) from by
      unfold Dat.leavesExact; rw [liveAt0_0 t], after0_0]
      rw [Dat.leavesExact_idle (dat W c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 48 := lt_of_lt_of_eq t.isLt (show cfg0.N = 48 from N_0); omega
      · rw [PhiS_castSucc W c t, PhiS_pos W c _ _ hz]
        rw [outsAt0_B W c t h0 h1]
        unfold sout0_B_0; (try dsimp only)
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk W c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

/-- What the launch hands the region (`ΦA`) is the invariant before the first point. -/
theorem hin (c : Dev nD) : Pipeline.ΦA spec0 c ⊢ (dat W c).Φ 0 := by
  rw [show (dat W c).Φ 0 = PhiS W c 0 (Nat.zero_le _) from rfl, PhiS_zero W c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat W c).Φ t ⊢ Pipeline.ΦA spec0 c := by
  rw [show (dat W c).Φ t = PhiS W c t.val (Nat.le_of_lt_succ t.isLt) from rfl, PhiS_pos W c _ _ ht, PhiA0_eq]
  iintro ⟨HS0, Hg⟩
  isplitl [HS0]
  · iexists _; iexact HS0
  iexact Hg

/-- The same after the last point. -/
theorem hout (c : Dev nD) : (dat W c).Φ (Fin.last cfg0.N) ⊢ Pipeline.ΦA spec0 c :=
  Phi_out W c _ (by rw [Fin.val_last]; have : cfg0.N = 48 := N_0; omega)

end Cert.Kernel.Amax

end
-- ==== Proof.BQuant.lean ====
/-
  The second kernel call (the quantiser): what its body leaves at each grid point, the proof data of its
  pipeline and the body obligation, from any contents `W` of the buffers at its entry.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.RegionArraysS
public import Idealize.ShloMosaic.Lib.Pipeline.Value

@[expose] public section

set_option maxRecDepth 16384

noncomputable section

namespace Cert.Kernel.Quant

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))
/-- Core `c`'s buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S1x1792x256 .i8 := (Memref.whole cc1_stg2_0 : Memref sig .tc .vmem S1x1792x256 .i8).view
/-- One staging buffer of output window 3, through which its contents are stated (`View.read_writes_of_cover`: the
    choice does not matter). -/
abbrev VO1_3 : View sig .tc .vmem S1x32x1792 .fp8e4m3 := (Memref.whole cc1_stg3_0 : Memref sig .tc .vmem S1x32x1792 .fp8e4m3).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1792 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1792x256 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32x1792 .fp8e4m3 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) :
    Σ' (L2 : List (View.Piece (Elt F) S1x1792x256 .i8)), { L3 : List (View.Piece (Elt F) S1x32x1792 .fp8e4m3) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1_quant i arg2 harg2 arg3 harg3 arg4 harg4 arg5 harg5) K } := by
  refine ⟨?_, ?_, fun E K => ?run⟩
  case run =>
    simp only [cc1_quant_eq_skeleton]; unfold cc1_quant_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3
/-- The run's pieces for output 2 tile its block (14 stores of `S1x128x256`, checked by the kernel's evaluation: Lib/Ring.lean `Piece.tiledL`, linear in the pieces, through a loop's `@[irreducible]` trip theorem too), so they cover it. -/
theorem cover1_A_2 (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) (y : S1x1792x256.Idx) :
    ∃ pc ∈ (kernelRun1_A c i arg2 harg2 arg3 harg3 arg4 harg4 arg5 harg5 x0 x1).1, y ∈ pc.1.set :=
  View.cover_of_tiledL (kernelRun1_A c i arg2 harg2 arg3 harg3 arg4 harg4 arg5 harg5 x0 x1).1 S1x128x256.size (by sl_kernel_rfl) y

/-- What the run leaves in output 2's staging buffer: its pieces read back over junk. -/
def out1_A_2 (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) : Vec F S1x1792x256 .i8 :=
  VO1_2.read (Elt F) (VO1_2.writes (Elt F) VO1_2.junk (kernelRun1_A c i arg2 harg2 arg3 harg3 arg4 harg4 arg5 harg5 x0 x1).1)

/-- The run's pieces for output 3 tile its block (14 stores of `S1x32x128`, checked by the kernel's evaluation: Lib/Ring.lean `Piece.tiledL`, linear in the pieces, through a loop's `@[irreducible]` trip theorem too), so they cover it. -/
theorem cover1_A_3 (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) (y : S1x32x1792.Idx) :
    ∃ pc ∈ (kernelRun1_A c i arg2 harg2 arg3 harg3 arg4 harg4 arg5 harg5 x0 x1).2.1, y ∈ pc.1.set :=
  View.cover_of_tiledL (kernelRun1_A c i arg2 harg2 arg3 harg3 arg4 harg4 arg5 harg5 x0 x1).2.1 S1x32x128.size (by sl_kernel_rfl) y

/-- What the run leaves in output 3's staging buffer: its pieces read back over junk. -/
def out1_A_3 (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) : Vec F S1x32x1792 .fp8e4m3 :=
  VO1_3.read (Elt F) (VO1_3.writes (Elt F) VO1_3.junk (kernelRun1_A c i arg2 harg2 arg3 harg3 arg4 harg4 arg5 harg5 x0 x1).2.1)

/-! ## What the outputs hold after each point -/

/-- What the outputs' staging buffers hold after the body at point `t` (as a tuple, in window order): the run's contents at
    the point's memrefs and input blocks. -/
def outsAt1 (c : Dev nD) (t : Fin cfg1.N) : Vec F S1x1792x256 .i8 × Vec F S1x32x1792 .fp8e4m3 :=
  (out1_A_2 c (grid1.coords t) (ms1_0 t) (hs1_0 t) (ms1_1 t) (hs1_1 t) (ms1_2 t) (hs1_2 t) (ms1_3 t) (hs1_3 t) (iblk W c 0 t) (iblk W c 1 t), out1_A_3 c (grid1.coords t) (ms1_0 t) (hs1_0 t) (ms1_1 t) (hs1_1 t) (ms1_2 t) (hs1_2 t) (ms1_3 t) (hs1_3 t) (iblk W c 0 t) (iblk W c 1 t))

/-! ## The pipeline's proof data -/

/-- The proof data of the one pipeline on core `c`: the arrays as the region finds them (`V`); after the body at
    point `t` each input's buffer at its block and the outputs' at `outsAt1`; the invariant the class's
    (Lib/Pipeline/Frame.lean `ΦA`: the scoped rest and the generator register); nothing owed; full shares. -/
def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => (outsAt1 W c t).1
    | ⟨3, _⟩ => (outsAt1 W c t).2
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat W c).A w = V W c (Pipeline.arrRef spec1 w) := by
  dsimp only [dat]

/-- What the body leaves, window by window (the proof data's `match` reduced by `dsimp`). -/
theorem after1_0 (c : Dev nD) (t : Fin cfg1.N) : (dat W c).after 0 t = iblk W c 0 t := by dsimp only [dat]
theorem after1_1 (c : Dev nD) (t : Fin cfg1.N) : (dat W c).after 1 t = iblk W c 1 t := by dsimp only [dat]
theorem after1_2 (c : Dev nD) (t : Fin cfg1.N) : (dat W c).after 2 t = (outsAt1 W c t).1 := by dsimp only [dat]
theorem after1_3 (c : Dev nD) (t : Fin cfg1.N) : (dat W c).after 3 t = (outsAt1 W c t).2 := by dsimp only [dat]

/-- Each input's current staging buffer holds its block at every point, fetched there or not (`beforeK_W_of`). -/
theorem before1_0 (c : Dev nD) (t : Fin cfg1.N) (d) : (dat W c).before 0 t d = iblk W c 0 t :=
  before1_0_of W (dat W c) (A_eq W c 0) (after1_0 W c) t d
theorem before1_1 (c : Dev nD) (t : Fin cfg1.N) (d) : (dat W c).before 1 t d = iblk W c 1 t :=
  before1_1_of W (dat W c) (A_eq W c 1) (after1_1 W c) t d

/-! ## The body obligation, at a generic point -/

/-- What the body is called with at point `t` (Lib/Pipeline.lean `BodyObligation`'s precondition, the windows one by one), -/
def bodyPre (c : Dev nD) (t : Fin cfg1.N) : sProp 𝕄 :=
  iprop((dat W c).Φ t.castSucc ∗ (dat W c).owesAt () t.castSucc
    ∗ (∃ d, owns (c : Thread nD τ) (ms1_0 t) fullShare ((dat W c).before 0 t d))
    ∗ (∃ d, owns (c : Thread nD τ) (ms1_1 t) fullShare ((dat W c).before 1 t d))
    ∗ (∃ d, owns (c : Thread nD τ) (ms1_2 t) fullShare ((dat W c).before 2 t d))
    ∗ (∃ d, owns (c : Thread nD τ) (ms1_3 t) fullShare ((dat W c).before 3 t d)))

/-- and what it returns. -/
def bodyPost (c : Dev nD) (t : Fin cfg1.N) : sProp 𝕄 :=
  iprop((dat W c).Φ t.succ ∗ (dat W c).owesAt () t.succ
    ∗ owns (c : Thread nD τ) (ms1_0 t) fullShare ((dat W c).after 0 t)
    ∗ owns (c : Thread nD τ) (ms1_1 t) fullShare ((dat W c).after 1 t)
    ∗ owns (c : Thread nD τ) (ms1_2 t) fullShare ((dat W c).after 2 t)
    ∗ owns (c : Thread nD τ) (ms1_3 t) fullShare ((dat W c).after 3 t))

/-- The body at any point: the inputs' memrefs hold their blocks (`before1_W`); so the
    run applies; the invariant passes through unread; the core owes nothing throughout. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1]
  rw [show (dat W c).Φ t.succ = (dat W c).Φ t.castSucc from rfl,
    show (dat W c).owesAt () t.succ = (dat W c).owesAt () t.castSucc from rfl,
    after1_0, after1_1, after1_2, after1_3]
  unfold outsAt1
  unfold out1_A_2 out1_A_3; (try dsimp only)
  iintro ⟨HΦ, Ho, ⟨%d0, H0⟩, ⟨%d1, H1⟩, ⟨%d2, H2⟩, ⟨%d3, H3⟩⟩
  iapply ((kernelRun1_A c (grid1.coords t) _ _ _ _ _ _ _ _ (iblk W c 0 t) (iblk W c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _)
  unfold owns; iexists _; isplitr
  swap; · iexact H3
  ipureintro; exact View.read_writes_of_cover _ _ _ _ _ (cover1_A_3 c _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

theorem hin (c : Dev nD) : Pipeline.ΦA spec1 c ⊢ (dat W c).Φ 0 := Idealize.SL.BI.Entails.refl _
theorem hout (c : Dev nD) : (dat W c).Φ (Fin.last cfg1.N) ⊢ Pipeline.ΦA spec1 c := Idealize.SL.BI.Entails.refl _
/-! ## Blockwise: what each point writes back, and the final array block by block -/

/-- WHAT POINT `t` WRITES BACK to output window 2's array: the run's contents for that window after the body (`Gen.outsAt1`: its component 0), read through the window's block. -/
theorem flushed2 (c : Dev nD) (t : Fin cfg1.N) :
    (dat W c).flushed 2 t = (cfg1.win 2).cut (grid1.coords t) ((outsAt1 W c t).1) := by
  show (cfg1.win 2).cut (grid1.coords t) ((dat W c).after 2 t) = _
  rw [after1_2]

/-- … so at a point where case A runs, what its write-back would write is that case's NAMED TERM for the window (`Gen.out1_A_2`: the pieces
    its run found, read back) at the point's memrefs and input blocks, and for an output the case reads back what the point before left (`Gen.outsAt1` at `t - 1`) — the kernel's one case, `Gen.outsAt1` by definition. -/
theorem flushed2_A (c : Dev nD) (t : Fin cfg1.N) :
    (dat W c).flushed 2 t = (cfg1.win 2).cut (grid1.coords t) (out1_A_2 c (grid1.coords t) (ms1_0 t) (hs1_0 t) (ms1_1 t) (hs1_1 t) (ms1_2 t) (hs1_2 t) (ms1_3 t) (hs1_3 t) (iblk W c 0 t) (iblk W c 1 t)) := by
  simp only [flushed2, outsAt1]

/-- The index map sends distinct grid points to distinct block indices (decided over the 96 points). -/
theorem idx_inj2 : ∀ t t' : Fin cfg1.N, win1_2.index t = win1_2.index t' → t = t' :=
  (by decide +kernel : ∀ t t' : Fin grid1.N, win1_2.index t = win1_2.index t' → t = t')

/-- So two flushing points' blocks share no array index (Lib/Pipeline/Cells.lean `Window.disjoint_blk`). -/
theorem disjoint2 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg1.N) (hf : (cfg1.win 2).flush t = true) :
    ((cfg1.win 2).blk t).view.read (Elt F) ((dat W c).arrAt 2 cfg1.N) = (dat W c).flushed 2 t :=
  (dat W c).read_blk_arrAt_eq_flushed 2 disjoint2 cfg1.N t t.isLt hf

/-- An index that no flushing point's block covers keeps output window 2's array contents at region entry. -/
theorem entry2 (c : Dev nD) (i : S48x1792x512.Idx) (h : ∀ t : Fin cfg1.N, (cfg1.win 2).flush t = true → i ∉ ((cfg1.win 2).blk t).view.set) :
    (dat W c).arrAt 2 cfg1.N i = V W c (Pipeline.arrRef spec1 2) i := by
  rw [(dat W c).arrAt_apply_of_forall_not_mem 2 cfg1.N i (fun t _ hf => h t hf), A_eq]

/-- WHAT POINT `t` WRITES BACK to output window 3's array: the run's contents for that window after the body (`Gen.outsAt1`: its component 1), read through the window's block. -/
theorem flushed3 (c : Dev nD) (t : Fin cfg1.N) :
    (dat W c).flushed 3 t = (cfg1.win 3).cut (grid1.coords t) ((outsAt1 W c t).2) := by
  show (cfg1.win 3).cut (grid1.coords t) ((dat W c).after 3 t) = _
  rw [after1_3]

/-- … so at a point where case A runs, what its write-back would write is that case's NAMED TERM for the window (`Gen.out1_A_3`: the pieces
    its run found, read back) at the point's memrefs and input blocks, and for an output the case reads back what the point before left (`Gen.outsAt1` at `t - 1`) — the kernel's one case, `Gen.outsAt1` by definition. -/
theorem flushed3_A (c : Dev nD) (t : Fin cfg1.N) :
    (dat W c).flushed 3 t = (cfg1.win 3).cut (grid1.coords t) (out1_A_3 c (grid1.coords t) (ms1_0 t) (hs1_0 t) (ms1_1 t) (hs1_1 t) (ms1_2 t) (hs1_2 t) (ms1_3 t) (hs1_3 t) (iblk W c 0 t) (iblk W c 1 t)) := by
  simp only [flushed3, outsAt1]

/-- The index map sends distinct grid points to distinct block indices (decided over the 96 points). -/
theorem idx_inj3 : ∀ t t' : Fin cfg1.N, win1_3.index t = win1_3.index t' → t = t' :=
  (by decide +kernel : ∀ t t' : Fin grid1.N, win1_3.index t = win1_3.index t' → t = t')

/-- So two flushing points' blocks share no array index (Lib/Pipeline/Cells.lean `Window.disjoint_blk`). -/
theorem disjoint3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg1.N) (hf : (cfg1.win 3).flush t = true) :
    ((cfg1.win 3).blk t).view.read (Elt F) ((dat W c).arrAt 3 cfg1.N) = (dat W c).flushed 3 t :=
  (dat W c).read_blk_arrAt_eq_flushed 3 disjoint3 cfg1.N t t.isLt hf

/-- An index that no flushing point's block covers keeps output window 3's array contents at region entry. -/
theorem entry3 (c : Dev nD) (i : S48x64x1792.Idx) (h : ∀ t : Fin cfg1.N, (cfg1.win 3).flush t = true → i ∉ ((cfg1.win 3).blk t).view.set) :
    (dat W c).arrAt 3 cfg1.N i = V W c (Pipeline.arrRef spec1 3) i := by
  rw [(dat W c).arrAt_apply_of_forall_not_mem 3 cfg1.N i (fun t _ hf => h t hf), A_eq]

end Cert.Kernel.Quant

end
-- ==== Proof.BRun.lean ====
/-
  The whole program: the two kernel calls one after the other, then the host operations. Every execution ends, with
  every buffer at the contents the three stretches compute one from the other, and every counter at zero.
-/
module

public import proofs.«01_k».proof.Proof.BAmax
public import proofs.«01_k».proof.Proof.BQuant
public import proofs.«01_k».proof.Proof.Gen.Kernel.Regions

@[expose] public section

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
abbrev W0 (c : Dev nD) : Valuation τ sig (Elt F) := fun b => m (c, b)
/-- The buffers after the first kernel call. -/
def W1 (c : Dev nD) : Valuation τ sig (Elt F) := afterRegion (Amax.dat (W0 m) c) (W0 m c)
/-- The buffers after the second kernel call. -/
def W2 (c : Dev nD) : Valuation τ sig (Elt F) := afterRegion (Quant.dat (W1 m) c) (W1 m c)
/-- The buffers after the host operations. -/
def W3 (c : Dev nD) : Valuation τ sig (Elt F) := StableHlo.after hostOps2 (W2 m c)

/-- The proof data of both kernel calls, each from the buffers as it finds them. -/
def pdats : (p : Fin 2) → (c : Dev nD) → Dat τ (Elt F) Unit ℕ (UR sig nD τ) ℕ (cfgs p) c
  | 0 => Amax.dat (W0 m)
  | 1 => Quant.dat (W1 m)

/-- The one index waited on, at every TensorCore's counters. -/
def L : GSem nD τ sig → Finset Unit := fun g => if g.1.2 = .tc then {()} else ∅
/-- All waits lie at one level. -/
def lv : GSem nD τ sig → Unit → ℕ := fun _ _ => 0

/-- What a core holds beside its buffers: it owes nothing, and its generator register. -/
def E (c : Dev nD) : sProp 𝕄 :=
  iprop((∃ Wd, owes (c : Thread nD τ) (0 : CellTallies nD τ sig Unit) Wd) ∗ (∃ r, prngReg c r) ∗ emp)

theorem cut (p : Fin 2) : Pipeline.LevelCut (nD := nD) (τ := τ) (pcfgs (F := F)) adm () L lv p 0 (fun _ => 0) where
  hι c w s := by simp [L]
  hιb c w s := le_refl _
  hD c g i h := absurd h (Nat.lt_irrefl 0)

theorem arrRefs_sub0 : Pipeline.arrRefs (τ := τ) spec0 ⊆ Pipeline.ucRefs τ sig := by decide +kernel
theorem arrRefs_sub1 : Pipeline.arrRefs (τ := τ) spec1 ⊆ Pipeline.ucRefs τ sig := by decide +kernel

set_option backward.isDefEq.respectTransparency.types false in
/-- The first kernel call's record. -/
def R0 : RegionSeg (pcfgs (F := F)) adm (pdats m) () defs₀ Variants.none L lv 0 :=
  RegionSeg.ofHeldIn (pcfgs (F := F)) adm (pdats m) () defs₀ Variants.none L lv 0 0 (Pipeline.ucRefs τ sig)
    (fun c => iprop(∃ r, prngReg c r)) (fun c => iprop(∃ r, prngReg c r)) launch0.toP rfl
    (fun c => (Amax.body_obligation (W0 m) c).loose) (fun _ _ => rfl) (fun _ => rfl) (fun c => (Amax.dat (W0 m) c).share_full fun _ => rfl)
    (fun c => Amax.hin (W0 m) c) (fun c => Amax.hout (W0 m) c) (fun _ => 0) (cut 0) (fun _ => iprop(emp)) (W0 m)
    (fun c w => Amax.A_eq (W0 m) c w)

set_option backward.isDefEq.respectTransparency.types false in
/-- The second kernel call's record. -/
def R1 : RegionSeg (pcfgs (F := F)) adm (pdats m) () defs₀ Variants.none L lv 1 :=
  RegionSeg.ofHeldIn (pcfgs (F := F)) adm (pdats m) () defs₀ Variants.none L lv 1 0 (Pipeline.ucRefs τ sig)
    (fun c => iprop(∃ r, prngReg c r)) (fun c => iprop(∃ r, prngReg c r)) launch1.toP rfl
    (fun c => (Quant.body_obligation (W1 m) c).loose) (fun _ _ => rfl) (fun _ => rfl) (fun c => (Quant.dat (W1 m) c).share_full fun _ => rfl)
    (fun c => Quant.hin (W1 m) c) (fun c => Quant.hout (W1 m) c) (fun _ => 0) (cut 1) (fun _ => iprop(emp)) (W1 m)
    (fun c w => Quant.A_eq (W1 m) c w)

set_option backward.isDefEq.respectTransparency.types false in
theorem R0_pre (c : Dev nD) : iprop(StableHlo.held (c.tc : Thread nD τ) (Pipeline.ucRefs τ sig) (W0 m c) ∗ E c) ⊢ (R0 m).pre c := by
  unfold R0 E
  exact RegionSeg.ofHeldIn_pre (pcs := pcfgs (F := F)) (p := 0) (D := 0) (X := fun c => iprop(∃ r, prngReg c r))
    (R := fun _ => iprop(emp)) (W := W0 m) arrRefs_sub0 c

theorem W1_eq (c : Dev nD) : W1 m c = afterRegion (cfg := Pipeline.pin (pcfgs (F := F)) adm 0) (pdats m 0 c) (W0 m c) := rfl

set_option backward.isDefEq.respectTransparency.types false in
theorem R0_post (c : Dev nD) : (R0 m).post c ⊢ iprop(StableHlo.held (c.tc : Thread nD τ) (Pipeline.ucRefs τ sig) (W1 m c) ∗ E c) := by
  rw [W1_eq]
  unfold R0 E
  exact RegionSeg.ofHeldIn_post (pcs := pcfgs (F := F)) (p := 0) arrRefs_sub0 c

set_option backward.isDefEq.respectTransparency.types false in
theorem R1_pre (c : Dev nD) : iprop(StableHlo.held (c.tc : Thread nD τ) (Pipeline.ucRefs τ sig) (W1 m c) ∗ E c) ⊢ (R1 m).pre c := by
  unfold R1 E
  exact RegionSeg.ofHeldIn_pre (pcs := pcfgs (F := F)) (p := 1) (D := 0) (X := fun c => iprop(∃ r, prngReg c r))
    (R := fun _ => iprop(emp)) (W := W1 m) arrRefs_sub1 c

theorem W2_eq (c : Dev nD) : W2 m c = afterRegion (cfg := Pipeline.pin (pcfgs (F := F)) adm 1) (pdats m 1 c) (W1 m c) := rfl

set_option backward.isDefEq.respectTransparency.types false in
theorem R1_post (c : Dev nD) : (R1 m).post c ⊢ iprop(StableHlo.held (c.tc : Thread nD τ) (Pipeline.ucRefs τ sig) (W2 m c) ∗ E c) := by
  rw [W2_eq]
  unfold R1 E
  exact RegionSeg.ofHeldIn_post (pcs := pcfgs (F := F)) (p := 1) arrRefs_sub1 c

/-- The host operations' record. -/
def seg2 : HostSeg (Name := ℕ) (U := UR sig nD τ) (pcfgs (F := F)) defs₀ Variants.none L lv :=
  HostSeg.ofOps (pcfgs (F := F)) defs₀ Variants.none L lv (Pipeline.ucRefs τ sig) hostOps2
    (fun op h => Pipeline.sub_ucRefs op ((List.forall_iff_forall_mem.mp hostOps2_sub) op h))
    (fun op h => (List.forall_iff_forall_mem.mp hostOps2_fresh) op h) (W2 m) E

set_option backward.isDefEq.respectTransparency.types false in
theorem run : θ_run defs (onTc (τ := τ) (main (F := F))) ⟨m, fun _ => 0, ρ⟩ (fun r => (∀ (c : Dev nD) (b : Ref sig .tc), b.isScoped = false →
      r.2.mem ((c.tc : Thread nD τ).loc b) = W3 m c (Proc.devRef .tc b)) ∧ r.2.sem = fun _ => 0) := by
  refine Pipeline.θ_run_regions_kit_dev_sems (pcfgs (F := F)) adm (pdats m) () cellOf_inj emb₁ defs₀ Variants.none L lv m ρ main
    (fun _ => [.region (R0 m), .region (R1 m), .host (seg2 m)])
    (fun c Q => by
      rewrite [main_chain c, Seg.run_eq_chain]
      exact .rfl)
    (fun c => by simp only [Seg.pipes_host, Seg.pipes_region, Seg.pipes_nil]; decide) 0
    (fun g hg => by simp [L, hg]) (fun _ => iprop(emp))
    (initOf (Pipeline.cells cfgs cellOf_inj) (Pipeline.launchToks cfgs cellOf_inj)) ?hu
    (T₀ := fun c => iprop(StableHlo.held (c : Thread nD τ) (Pipeline.ucRefs τ sig) (W0 m c) ∗ E c))
    (Tₙ := fun c => StableHlo.held (c : Thread nD τ) (Pipeline.ucRefs τ sig) (W3 m c))
    (hch := fun c => ⟨R0_pre m c, (R0_post m c).trans (R1_pre m c), R1_post m c, ?last⟩)
    (hinit := ?_) (QY := fun c s => ∀ b ∈ Pipeline.ucRefs τ sig, s.mem ((c.tc : Thread nD τ).1, b) = W3 m c b)
    (hfin := fun c s' => ?_)
    (hQ := fun _ h hz => ⟨fun c b hb => h c (Proc.devRef .tc b) (Pipeline.devRef_mem_ucRefs hb), funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c.tc : Thread nD τ) (Pipeline.ucRefs τ sig) (W3 m c) ∗ E c) ⊢ (_ : sProp 𝕄)
    unfold E
    iintro ⟨Hh, HO, -, -⟩
    isplitl [Hh] <;> iassumption
  · refine Pipeline.initEach L lv fun c => ?_
    rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
    unfold E
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    imodintro; iexact Hr

/-- A reference none of the program writes keeps its launch contents: the two calls' arrays that are inputs, and every
    other buffer. -/
theorem W3_arg0 (c : Dev nD) : W3 m c (Proc.devRef .tc main_arg0) = m ((c.tc : Thread nD τ).loc main_arg0) := by
  have h3 : W3 m c (Proc.devRef .tc main_arg0) = W2 m c (Proc.devRef .tc main_arg0) := by
    unfold W3 hostOps2; after_results
  rw [h3]
  unfold W2
  rw [Pipeline.afterRegion_keeps (Quant.dat (W1 m) c) (W1 m c) launch1.win.arr_inj (fun w => Quant.A_eq (W1 m) c w) main_arg0 (by decide)]
  unfold W1
  exact Pipeline.afterRegion_keeps (Amax.dat (W0 m) c) (W0 m c) launch0.win.arr_inj (fun w => Amax.A_eq (W0 m) c w) main_arg0 (by decide)

/-- The frame: every execution ends, the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1 c main_arg0 (by decide)).trans (W3_arg0 m c), h.2⟩) (run m ρ)

end Cert.Kernel.Run

end
-- ==== Proof.IAmax.lean ====
/-
  The first kernel call (the maximum over the whole input): what its body leaves at each grid point, the
  proof data of its pipeline and the body obligation, from any contents `W` of the buffers at its entry.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.RegionArraysS

@[expose] public section

set_option maxRecDepth 16384

noncomputable section

namespace Cert.KernelIdeal.Amax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))
/-- Core `c`'s buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_1, k0_cond2, e0]
    word_cmp
   : ∀ t : Fin grid0.N, cond0_1 (grid0.coords t) ↔ t.val % 48 = 47)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x1 .f32 := (Memref.whole cc0_stg1_0 : Memref sig .tc .smem S1x1 .f32).view
/-- Each window's current staging memref at point `t`, spelled as the pipeline passes it (`bodyAt0`), and its wholeness. -/
abbrev ms0_0 (t : Fin cfg0.N) : Memref sig .tc .vmem S1x1024x1792 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x1792 .bf16 := Memref.whole cc0_scratch0
/-- The scratch `arg3` the kernel carries between points, as a view: what it holds is stated through it. -/
abbrev VS0_0 : View sig .tc .vmem S16x1792 .bf16 := scM0_0.view

/-- What the invariant holds beside the scratch: the other kernel's buffers and the generator register. -/
def Rg (c : Dev nD) : sProp 𝕄 :=
  iprop(((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg0_0), ((c : Thread nD τ).loc cc1_stg0_0) ↦{fullShare} f)) ∗ (∃ r, prngReg c r))

/-- The invariant the region is entered with, the scratch first. -/
theorem PhiA0_eq (c : Dev nD) :
    (Pipeline.ΦA spec0 c : sProp 𝕄)
      = iprop(iprop((∃ d, owns (c : Thread nD τ) scM0_0 fullShare d)) ∗ Rg c) := by
  unfold Pipeline.ΦA Rg; rw [scopedRest0_eq]; simp only [scM0_0, owns_whole]
  exact Idealize.SL.BI.Entails.antisymm Idealize.SL.BI.sep_assoc Idealize.SL.BI.sep_assoc'

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : cond0_0 i) (hc1 : ¬cond0_1 i)
    (x0 : Vec F S1x1024x1792 .bf16) :
    Σ' (L1 : List (View.Piece (Elt F) S1x1 .f32)), { LS0 : List (View.Piece (Elt F) S16x1792 .bf16) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨[], ?_, fun xi1 E K => ?run⟩
  case run =>
    simp only [cc0_amax_eq_skeleton]; unfold cc0_amax_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 46: 46 of 48), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : ¬cond0_1 i)
    (x0 : Vec F S1x1024x1792 .bf16) (xs0 : Vec F S16x1792 .bf16) :
    Σ' (L1 : List (View.Piece (Elt F) S1x1 .f32)), { LS0 : List (View.Piece (Elt F) S16x1792 .bf16) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨[], ?_, fun xi1 E K => ?run⟩
  case run =>
    simp only [cc0_amax_eq_skeleton]; unfold cc0_amax_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 47), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) :
    Σ' (L1 : List (View.Piece (Elt F) S1x1 .f32)), { LS0 : List (View.Piece (Elt F) S16x1792 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨?_, ?_, fun E K => ?run⟩
  case run =>
    simp only [cc0_amax_eq_skeleton]; unfold cc0_amax_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : cond0_0 i) (hc1 : ¬cond0_1 i)
    (x0 : Vec F S1x1024x1792 .bf16) : Vec F S1x1 .f32 :=
  VO0_1.read (Elt F) (VO0_1.writes (Elt F) VO0_1.junk (kernelRun0_A c i arg1 harg1 arg2 harg2 arg3 harg3 hc0 hc1 x0).1)

/-- Case A's pieces for scratch `arg3`, which the kernel carries between points, cover it: 2 pieces of `S16x1792` tiling it (Lib/Ring.lean `Piece.tiledL`). -/
theorem scover0_A_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : cond0_0 i) (hc1 : ¬cond0_1 i)
    (x0 : Vec F S1x1024x1792 .bf16) (y : S16x1792.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S16x1792.size (by sl_kernel_rfl) y

/-- What case A leaves in scratch `arg3`: its pieces read back over junk. -/
def sout0_A_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : cond0_0 i) (hc1 : ¬cond0_1 i)
    (x0 : Vec F S1x1024x1792 .bf16) : Vec F S16x1792 .bf16 :=
  VS0_0.read (Elt F) (VS0_0.writes (Elt F) VS0_0.junk (kernelRun0_A c i arg1 harg1 arg2 harg2 arg3 harg3 hc0 hc1 x0).2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : ¬cond0_1 i)
    (x0 : Vec F S1x1024x1792 .bf16) (xs0 : Vec F S16x1792 .bf16) : Vec F S1x1 .f32 :=
  VO0_1.read (Elt F) (VO0_1.writes (Elt F) VO0_1.junk (kernelRun0_B c i arg1 harg1 arg2 harg2 arg3 harg3 hc0 hc1 x0 xs0).1)

/-- Case B's pieces for scratch `arg3`, which the kernel carries between points, cover it: 1 piece of `S16x1792` tiling it (Lib/Ring.lean `Piece.tiledL`). -/
theorem scover0_B_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : ¬cond0_1 i)
    (x0 : Vec F S1x1024x1792 .bf16) (xs0 : Vec F S16x1792 .bf16) (y : S16x1792.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S16x1792.size (by sl_kernel_rfl) y

/-- What case B leaves in scratch `arg3`: its pieces read back over junk. -/
def sout0_B_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : ¬cond0_1 i)
    (x0 : Vec F S1x1024x1792 .bf16) (xs0 : Vec F S16x1792 .bf16) : Vec F S16x1792 .bf16 :=
  VS0_0.read (Elt F) (VS0_0.writes (Elt F) VS0_0.junk (kernelRun0_B c i arg1 harg1 arg2 harg2 arg3 harg3 hc0 hc1 x0 xs0).2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) (y : S1x1.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-- What case C leaves in output 1's staging buffer: its pieces read back over junk. -/
def out0_C_1 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) : Vec F S1x1 .f32 :=
  VO0_1.read (Elt F) (VO0_1.writes (Elt F) VO0_1.junk (kernelRun0_C c i arg1 harg1 arg2 harg2 arg3 harg3 hc0 hc1 x0 xs0).1)

/-- Case C's pieces for scratch `arg3`, which the kernel carries between points, cover it: 1 piece of `S16x1792` tiling it (Lib/Ring.lean `Piece.tiledL`). -/
theorem scover0_C_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) (y : S16x1792.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S16x1792.size (by sl_kernel_rfl) y

/-- What case C leaves in scratch `arg3`: its pieces read back over junk. -/
def sout0_C_0 (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole) (hc0 : ¬cond0_0 i) (hc1 : cond0_1 i)
    (x0 : Vec F S1x1024x1792 .bf16) (xs0 : Vec F S16x1792 .bf16) : Vec F S16x1792 .bf16 :=
  VS0_0.read (Elt F) (VS0_0.writes (Elt F) VS0_0.junk (kernelRun0_C c i arg1 harg1 arg2 harg2 arg3 harg3 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S16x1792 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk W c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk W c 0 ⟨0, hn⟩))
  | n + 1, hn =>
    if h0 : (n + 1) % 48 = 0 then
      if h1 : (n + 1) % 48 = 47 then
        False.elim (by have hN : n + 1 < 48 := lt_of_lt_of_eq hn (show cfg0.N = 48 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk W c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk W c 0 ⟨n + 1, hn⟩))
    else
      if h1 : (n + 1) % 48 = 47 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk W c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk W c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk W c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk W c 0 ⟨n + 1, hn⟩) (outsAt0 c n (Nat.lt_of_succ_lt hn)).2)

/-- `outsAt0` at a point of case A: that case's contents. -/
theorem outsAt0_A (c : Dev nD) (t : Fin cfg0.N) (h0 : t.val % 48 = 0) (h1 : ¬t.val % 48 = 47) :
    outsAt0 W c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk W c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk W c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 48 = 0) (h1 : ¬t.val % 48 = 47) :
    outsAt0 W c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk W c 0 t) (outsAt0 W c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk W c 0 t) (outsAt0 W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 48 = 0) (h1 : t.val % 48 = 47) :
    outsAt0 W c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk W c 0 t) (outsAt0 W c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk W c 0 t) (outsAt0 W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 W c n hn).2)) ∗ Rg c)

theorem PhiS_zero (c : Dev nD) (n : ℕ) (h : n ≤ cfg0.N) (hz : n = 0) : PhiS W c n h = Pipeline.ΦA spec0 c := by
  subst hz; rfl

/-- After point `n` (before point `n + 1`): the carried scratch at that point's contents. -/
theorem PhiS_succ (c : Dev nD) (n : ℕ) (hn : n < cfg0.N) :
    PhiS W c (n + 1) hn = iprop(iprop(owns (c : Thread nD τ) scM0_0 fullShare ((outsAt0 W c n hn).2)) ∗ Rg c) := rfl

/-- Before a point that is not the first: the carried scratch at what the point before left. -/
theorem PhiS_pos (c : Dev nD) (n : ℕ) (h : n ≤ cfg0.N) (hz : n ≠ 0) :
    PhiS W c n h = iprop(iprop(owns (c : Thread nD τ) scM0_0 fullShare ((outsAt0 W c (n - 1) (by omega)).2)) ∗ Rg c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => (outsAt0 W c t.val t.isLt).1
  Φ t := PhiS W c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat W c).A w = V W c (Pipeline.arrRef spec0 w) := by
  dsimp only [dat]

/-- The invariant at a point's start (the proof data at `t.castSucc`), restated at `t.val`. -/
theorem PhiS_castSucc (c : Dev nD) (t : Fin cfg0.N) :
    (dat W c).Φ t.castSucc = PhiS W c t.val (Nat.le_of_lt t.isLt) := by
  dsimp only [dat]; exact Pipeline.Dat.Φ_castSucc (PhiS W c) t

/-- What the body leaves, window by window (the proof data's `match` reduced by `dsimp`). -/
theorem after0_0 (c : Dev nD) (t : Fin cfg0.N) : (dat W c).after 0 t = iblk W c 0 t := by dsimp only [dat]
theorem after0_1 (c : Dev nD) (t : Fin cfg0.N) : (dat W c).after 1 t = (outsAt0 W c t.val t.isLt).1 := by dsimp only [dat]

/-- Each input's current staging buffer holds its block at every point, fetched there or not (`beforeK_W_of`). -/
theorem before0_0 (c : Dev nD) (t : Fin cfg0.N) (d) : (dat W c).before 0 t d = iblk W c 0 t :=
  before0_0_of W (dat W c) (A_eq W c 0) (after0_0 W c) t d

/-! ## The body obligation, at a generic point -/

/-- What the body is called with at point `t` (Lib/Pipeline.lean `BodyObligation`'s precondition, the windows one by one), -/
def bodyPre (c : Dev nD) (t : Fin cfg0.N) : sProp 𝕄 :=
  iprop((dat W c).Φ t.castSucc ∗ (dat W c).owesAt () t.castSucc
    ∗ (∃ d, owns (c : Thread nD τ) (ms0_0 t) fullShare ((dat W c).before 0 t d))
    ∗ (∃ d, owns (c : Thread nD τ) (ms0_1 t) fullShare ((dat W c).before 1 t d)))

/-- and what it returns. -/
def bodyPost (c : Dev nD) (t : Fin cfg0.N) : sProp 𝕄 :=
  iprop((dat W c).Φ t.succ ∗ (dat W c).owesAt () t.succ
    ∗ (dat W c).leavesExact 0 t
    ∗ (dat W c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0]
  rw [show (dat W c).owesAt () t.succ = (dat W c).owesAt () t.castSucc from rfl]
  rw [show (dat W c).Φ t.succ = PhiS W c (t.val + 1) t.isLt from rfl, PhiS_succ]
  have hN : t.val < 48 := lt_of_lt_of_eq t.isLt (show cfg0.N = 48 from N_0)
  by_cases h0 : t.val % 48 = 0
  · by_cases h1 : t.val % 48 = 47
    · exfalso; omega
    · rw [show (dat W c).leavesExact 0 t = owns (c : Thread nD τ) (ms0_0 t) fullShare ((dat W c).after 0 t) from by
      unfold Dat.leavesExact; rw [liveAt0_0 t], after0_0]
      rw [Dat.leavesExact_idle (dat W c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc W c t, PhiS_zero W c _ _ hz, PhiA0_eq]
        rw [outsAt0_A W c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk W c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; have hN : t.val < 48 := lt_of_lt_of_eq t.isLt (show cfg0.N = 48 from N_0); omega
  · by_cases h1 : t.val % 48 = 47
    · rw [show (dat W c).leavesExact 0 t = owns (c : Thread nD τ) (ms0_0 t) fullShare ((dat W c).after 0 t) from by
      unfold Dat.leavesExact; rw [liveAt0_0 t], after0_0]
      rw [show (dat W c).leavesExact 1 t = owns (c : Thread nD τ) (ms0_1 t) fullShare ((dat W c).after 1 t) from by
      unfold Dat.leavesExact; rw [liveAt0_1_C t (fun h => h0 ((hcond0_0 t).mp h)) ((hcond0_1 t).mpr h1)], after0_1]
      by_cases hz : t.val = 0
      · exfalso; have hN : t.val < 48 := lt_of_lt_of_eq t.isLt (show cfg0.N = 48 from N_0); omega
      · rw [PhiS_castSucc W c t, PhiS_pos W c _ _ hz]
        rw [outsAt0_C W c t h0 h1]
        unfold out0_C_1 sout0_C_0; (try dsimp only)
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk W c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat W c).leavesExact 0 t = owns (c : Thread nD τ) (ms0_0 t) fullShare ((dat W c).after 0 t) from by
      unfold Dat.leavesExact; rw [liveAt0_0 t], after0_0]
      rw [Dat.leavesExact_idle (dat W c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 48 := lt_of_lt_of_eq t.isLt (show cfg0.N = 48 from N_0); omega
      · rw [PhiS_castSucc W c t, PhiS_pos W c _ _ hz]
        rw [outsAt0_B W c t h0 h1]
        unfold sout0_B_0; (try dsimp only)
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk W c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

/-- What the launch hands the region (`ΦA`) is the invariant before the first point. -/
theorem hin (c : Dev nD) : Pipeline.ΦA spec0 c ⊢ (dat W c).Φ 0 := by
  rw [show (dat W c).Φ 0 = PhiS W c 0 (Nat.zero_le _) from rfl, PhiS_zero W c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat W c).Φ t ⊢ Pipeline.ΦA spec0 c := by
  rw [show (dat W c).Φ t = PhiS W c t.val (Nat.le_of_lt_succ t.isLt) from rfl, PhiS_pos W c _ _ ht, PhiA0_eq]
  iintro ⟨HS0, Hg⟩
  isplitl [HS0]
  · iexists _; iexact HS0
  iexact Hg

/-- The same after the last point. -/
theorem hout (c : Dev nD) : (dat W c).Φ (Fin.last cfg0.N) ⊢ Pipeline.ΦA spec0 c :=
  Phi_out W c _ (by rw [Fin.val_last]; have : cfg0.N = 48 := N_0; omega)

end Cert.KernelIdeal.Amax

end
-- ==== Proof.IQuant.lean ====
/-
  The second kernel call (the quantiser): what its body leaves at each grid point, the proof data of its
  pipeline and the body obligation, from any contents `W` of the buffers at its entry.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.RegionArraysS
public import Idealize.ShloMosaic.Lib.Pipeline.Value

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))
/-- Core `c`'s buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S1x1792x256 .i8 := (Memref.whole cc1_stg2_0 : Memref sig .tc .vmem S1x1792x256 .i8).view
/-- One staging buffer of output window 3, through which its contents are stated (`View.read_writes_of_cover`: the
    choice does not matter). -/
abbrev VO1_3 : View sig .tc .vmem S1x32x1792 .fp8e4m3 := (Memref.whole cc1_stg3_0 : Memref sig .tc .vmem S1x32x1792 .fp8e4m3).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1792 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1792x256 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32x1792 .fp8e4m3 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) :
    Σ' (L2 : List (View.Piece (Elt F) S1x1792x256 .i8)), { L3 : List (View.Piece (Elt F) S1x32x1792 .fp8e4m3) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1_quant i arg2 harg2 arg3 harg3 arg4 harg4 arg5 harg5) K } := by
  refine ⟨?_, ?_, fun E K => ?run⟩
  case run =>
    simp only [cc1_quant_eq_skeleton]; unfold cc1_quant_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3
/-- The run's pieces for output 2 tile its block (14 stores of `S1x128x256`, checked by the kernel's evaluation: Lib/Ring.lean `Piece.tiledL`, linear in the pieces, through a loop's `@[irreducible]` trip theorem too), so they cover it. -/
theorem cover1_A_2 (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) (y : S1x1792x256.Idx) :
    ∃ pc ∈ (kernelRun1_A c i arg2 harg2 arg3 harg3 arg4 harg4 arg5 harg5 x0 x1).1, y ∈ pc.1.set :=
  View.cover_of_tiledL (kernelRun1_A c i arg2 harg2 arg3 harg3 arg4 harg4 arg5 harg5 x0 x1).1 S1x128x256.size (by sl_kernel_rfl) y

/-- What the run leaves in output 2's staging buffer: its pieces read back over junk. -/
def out1_A_2 (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) : Vec F S1x1792x256 .i8 :=
  VO1_2.read (Elt F) (VO1_2.writes (Elt F) VO1_2.junk (kernelRun1_A c i arg2 harg2 arg3 harg3 arg4 harg4 arg5 harg5 x0 x1).1)

/-- The run's pieces for output 3 tile its block (14 stores of `S1x32x128`, checked by the kernel's evaluation: Lib/Ring.lean `Piece.tiledL`, linear in the pieces, through a loop's `@[irreducible]` trip theorem too), so they cover it. -/
theorem cover1_A_3 (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) (y : S1x32x1792.Idx) :
    ∃ pc ∈ (kernelRun1_A c i arg2 harg2 arg3 harg3 arg4 harg4 arg5 harg5 x0 x1).2.1, y ∈ pc.1.set :=
  View.cover_of_tiledL (kernelRun1_A c i arg2 harg2 arg3 harg3 arg4 harg4 arg5 harg5 x0 x1).2.1 S1x32x128.size (by sl_kernel_rfl) y

/-- What the run leaves in output 3's staging buffer: its pieces read back over junk. -/
def out1_A_3 (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole)
    (x0 : Vec F S1x1 .f32) (x1 : Vec F S1x512x1792 .bf16) : Vec F S1x32x1792 .fp8e4m3 :=
  VO1_3.read (Elt F) (VO1_3.writes (Elt F) VO1_3.junk (kernelRun1_A c i arg2 harg2 arg3 harg3 arg4 harg4 arg5 harg5 x0 x1).2.1)

/-! ## What the outputs hold after each point -/

/-- What the outputs' staging buffers hold after the body at point `t` (as a tuple, in window order): the run's contents at
    the point's memrefs and input blocks. -/
def outsAt1 (c : Dev nD) (t : Fin cfg1.N) : Vec F S1x1792x256 .i8 × Vec F S1x32x1792 .fp8e4m3 :=
  (out1_A_2 c (grid1.coords t) (ms1_0 t) (hs1_0 t) (ms1_1 t) (hs1_1 t) (ms1_2 t) (hs1_2 t) (ms1_3 t) (hs1_3 t) (iblk W c 0 t) (iblk W c 1 t), out1_A_3 c (grid1.coords t) (ms1_0 t) (hs1_0 t) (ms1_1 t) (hs1_1 t) (ms1_2 t) (hs1_2 t) (ms1_3 t) (hs1_3 t) (iblk W c 0 t) (iblk W c 1 t))

/-! ## The pipeline's proof data -/

/-- The proof data of the one pipeline on core `c`: the arrays as the region finds them (`V`); after the body at
    point `t` each input's buffer at its block and the outputs' at `outsAt1`; the invariant the class's
    (Lib/Pipeline/Frame.lean `ΦA`: the scoped rest and the generator register); nothing owed; full shares. -/
def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => (outsAt1 W c t).1
    | ⟨3, _⟩ => (outsAt1 W c t).2
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat W c).A w = V W c (Pipeline.arrRef spec1 w) := by
  dsimp only [dat]

/-- What the body leaves, window by window (the proof data's `match` reduced by `dsimp`). -/
theorem after1_0 (c : Dev nD) (t : Fin cfg1.N) : (dat W c).after 0 t = iblk W c 0 t := by dsimp only [dat]
theorem after1_1 (c : Dev nD) (t : Fin cfg1.N) : (dat W c).after 1 t = iblk W c 1 t := by dsimp only [dat]
theorem after1_2 (c : Dev nD) (t : Fin cfg1.N) : (dat W c).after 2 t = (outsAt1 W c t).1 := by dsimp only [dat]
theorem after1_3 (c : Dev nD) (t : Fin cfg1.N) : (dat W c).after 3 t = (outsAt1 W c t).2 := by dsimp only [dat]

/-- Each input's current staging buffer holds its block at every point, fetched there or not (`beforeK_W_of`). -/
theorem before1_0 (c : Dev nD) (t : Fin cfg1.N) (d) : (dat W c).before 0 t d = iblk W c 0 t :=
  before1_0_of W (dat W c) (A_eq W c 0) (after1_0 W c) t d
theorem before1_1 (c : Dev nD) (t : Fin cfg1.N) (d) : (dat W c).before 1 t d = iblk W c 1 t :=
  before1_1_of W (dat W c) (A_eq W c 1) (after1_1 W c) t d

/-! ## The body obligation, at a generic point -/

/-- What the body is called with at point `t` (Lib/Pipeline.lean `BodyObligation`'s precondition, the windows one by one), -/
def bodyPre (c : Dev nD) (t : Fin cfg1.N) : sProp 𝕄 :=
  iprop((dat W c).Φ t.castSucc ∗ (dat W c).owesAt () t.castSucc
    ∗ (∃ d, owns (c : Thread nD τ) (ms1_0 t) fullShare ((dat W c).before 0 t d))
    ∗ (∃ d, owns (c : Thread nD τ) (ms1_1 t) fullShare ((dat W c).before 1 t d))
    ∗ (∃ d, owns (c : Thread nD τ) (ms1_2 t) fullShare ((dat W c).before 2 t d))
    ∗ (∃ d, owns (c : Thread nD τ) (ms1_3 t) fullShare ((dat W c).before 3 t d)))

/-- and what it returns. -/
def bodyPost (c : Dev nD) (t : Fin cfg1.N) : sProp 𝕄 :=
  iprop((dat W c).Φ t.succ ∗ (dat W c).owesAt () t.succ
    ∗ owns (c : Thread nD τ) (ms1_0 t) fullShare ((dat W c).after 0 t)
    ∗ owns (c : Thread nD τ) (ms1_1 t) fullShare ((dat W c).after 1 t)
    ∗ owns (c : Thread nD τ) (ms1_2 t) fullShare ((dat W c).after 2 t)
    ∗ owns (c : Thread nD τ) (ms1_3 t) fullShare ((dat W c).after 3 t))

/-- The body at any point: the inputs' memrefs hold their blocks (`before1_W`); so the
    run applies; the invariant passes through unread; the core owes nothing throughout. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1]
  rw [show (dat W c).Φ t.succ = (dat W c).Φ t.castSucc from rfl,
    show (dat W c).owesAt () t.succ = (dat W c).owesAt () t.castSucc from rfl,
    after1_0, after1_1, after1_2, after1_3]
  unfold outsAt1
  unfold out1_A_2 out1_A_3; (try dsimp only)
  iintro ⟨HΦ, Ho, ⟨%d0, H0⟩, ⟨%d1, H1⟩, ⟨%d2, H2⟩, ⟨%d3, H3⟩⟩
  iapply ((kernelRun1_A c (grid1.coords t) _ _ _ _ _ _ _ _ (iblk W c 0 t) (iblk W c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _)
  unfold owns; iexists _; isplitr
  swap; · iexact H3
  ipureintro; exact View.read_writes_of_cover _ _ _ _ _ (cover1_A_3 c _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

theorem hin (c : Dev nD) : Pipeline.ΦA spec1 c ⊢ (dat W c).Φ 0 := Idealize.SL.BI.Entails.refl _
theorem hout (c : Dev nD) : (dat W c).Φ (Fin.last cfg1.N) ⊢ Pipeline.ΦA spec1 c := Idealize.SL.BI.Entails.refl _
/-! ## Blockwise: what each point writes back, and the final array block by block -/

/-- WHAT POINT `t` WRITES BACK to output window 2's array: the run's contents for that window after the body (`Gen.outsAt1`: its component 0), read through the window's block. -/
theorem flushed2 (c : Dev nD) (t : Fin cfg1.N) :
    (dat W c).flushed 2 t = (cfg1.win 2).cut (grid1.coords t) ((outsAt1 W c t).1) := by
  show (cfg1.win 2).cut (grid1.coords t) ((dat W c).after 2 t) = _
  rw [after1_2]

/-- … so at a point where case A runs, what its write-back would write is that case's NAMED TERM for the window (`Gen.out1_A_2`: the pieces
    its run found, read back) at the point's memrefs and input blocks, and for an output the case reads back what the point before left (`Gen.outsAt1` at `t - 1`) — the kernel's one case, `Gen.outsAt1` by definition. -/
theorem flushed2_A (c : Dev nD) (t : Fin cfg1.N) :
    (dat W c).flushed 2 t = (cfg1.win 2).cut (grid1.coords t) (out1_A_2 c (grid1.coords t) (ms1_0 t) (hs1_0 t) (ms1_1 t) (hs1_1 t) (ms1_2 t) (hs1_2 t) (ms1_3 t) (hs1_3 t) (iblk W c 0 t) (iblk W c 1 t)) := by
  simp only [flushed2, outsAt1]

/-- The index map sends distinct grid points to distinct block indices (decided over the 96 points). -/
theorem idx_inj2 : ∀ t t' : Fin cfg1.N, win1_2.index t = win1_2.index t' → t = t' :=
  (by decide +kernel : ∀ t t' : Fin grid1.N, win1_2.index t = win1_2.index t' → t = t')

/-- So two flushing points' blocks share no array index (Lib/Pipeline/Cells.lean `Window.disjoint_blk`). -/
theorem disjoint2 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg1.N) (hf : (cfg1.win 2).flush t = true) :
    ((cfg1.win 2).blk t).view.read (Elt F) ((dat W c).arrAt 2 cfg1.N) = (dat W c).flushed 2 t :=
  (dat W c).read_blk_arrAt_eq_flushed 2 disjoint2 cfg1.N t t.isLt hf

/-- An index that no flushing point's block covers keeps output window 2's array contents at region entry. -/
theorem entry2 (c : Dev nD) (i : S48x1792x512.Idx) (h : ∀ t : Fin cfg1.N, (cfg1.win 2).flush t = true → i ∉ ((cfg1.win 2).blk t).view.set) :
    (dat W c).arrAt 2 cfg1.N i = V W c (Pipeline.arrRef spec1 2) i := by
  rw [(dat W c).arrAt_apply_of_forall_not_mem 2 cfg1.N i (fun t _ hf => h t hf), A_eq]

/-- WHAT POINT `t` WRITES BACK to output window 3's array: the run's contents for that window after the body (`Gen.outsAt1`: its component 1), read through the window's block. -/
theorem flushed3 (c : Dev nD) (t : Fin cfg1.N) :
    (dat W c).flushed 3 t = (cfg1.win 3).cut (grid1.coords t) ((outsAt1 W c t).2) := by
  show (cfg1.win 3).cut (grid1.coords t) ((dat W c).after 3 t) = _
  rw [after1_3]

/-- … so at a point where case A runs, what its write-back would write is that case's NAMED TERM for the window (`Gen.out1_A_3`: the pieces
    its run found, read back) at the point's memrefs and input blocks, and for an output the case reads back what the point before left (`Gen.outsAt1` at `t - 1`) — the kernel's one case, `Gen.outsAt1` by definition. -/
theorem flushed3_A (c : Dev nD) (t : Fin cfg1.N) :
    (dat W c).flushed 3 t = (cfg1.win 3).cut (grid1.coords t) (out1_A_3 c (grid1.coords t) (ms1_0 t) (hs1_0 t) (ms1_1 t) (hs1_1 t) (ms1_2 t) (hs1_2 t) (ms1_3 t) (hs1_3 t) (iblk W c 0 t) (iblk W c 1 t)) := by
  simp only [flushed3, outsAt1]

/-- The index map sends distinct grid points to distinct block indices (decided over the 96 points). -/
theorem idx_inj3 : ∀ t t' : Fin cfg1.N, win1_3.index t = win1_3.index t' → t = t' :=
  (by decide +kernel : ∀ t t' : Fin grid1.N, win1_3.index t = win1_3.index t' → t = t')

/-- So two flushing points' blocks share no array index (Lib/Pipeline/Cells.lean `Window.disjoint_blk`). -/
theorem disjoint3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg1.N) (hf : (cfg1.win 3).flush t = true) :
    ((cfg1.win 3).blk t).view.read (Elt F) ((dat W c).arrAt 3 cfg1.N) = (dat W c).flushed 3 t :=
  (dat W c).read_blk_arrAt_eq_flushed 3 disjoint3 cfg1.N t t.isLt hf

/-- An index that no flushing point's block covers keeps output window 3's array contents at region entry. -/
theorem entry3 (c : Dev nD) (i : S48x64x1792.Idx) (h : ∀ t : Fin cfg1.N, (cfg1.win 3).flush t = true → i ∉ ((cfg1.win 3).blk t).view.set) :
    (dat W c).arrAt 3 cfg1.N i = V W c (Pipeline.arrRef spec1 3) i := by
  rw [(dat W c).arrAt_apply_of_forall_not_mem 3 cfg1.N i (fun t _ hf => h t hf), A_eq]

end Cert.KernelIdeal.Quant

end
-- ==== Proof.IRun.lean ====
/-
  The whole program: the two kernel calls one after the other, then the host operations. Every execution ends, with
  every buffer at the contents the three stretches compute one from the other, and every counter at zero.
-/
module

public import proofs.«01_k».proof.Proof.IAmax
public import proofs.«01_k».proof.Proof.IQuant
public import proofs.«01_k».proof.Proof.Gen.KernelIdeal.Regions

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers at launch. -/
abbrev W0 (c : Dev nD) : Valuation τ sig (Elt F) := fun b => m (c, b)
/-- The buffers after the first kernel call. -/
def W1 (c : Dev nD) : Valuation τ sig (Elt F) := afterRegion (Amax.dat (W0 m) c) (W0 m c)
/-- The buffers after the second kernel call. -/
def W2 (c : Dev nD) : Valuation τ sig (Elt F) := afterRegion (Quant.dat (W1 m) c) (W1 m c)
/-- The buffers after the host operations. -/
def W3 (c : Dev nD) : Valuation τ sig (Elt F) := StableHlo.after hostOps2 (W2 m c)

/-- The proof data of both kernel calls, each from the buffers as it finds them. -/
def pdats : (p : Fin 2) → (c : Dev nD) → Dat τ (Elt F) Unit ℕ (UR sig nD τ) ℕ (cfgs p) c
  | 0 => Amax.dat (W0 m)
  | 1 => Quant.dat (W1 m)

/-- The one index waited on, at every TensorCore's counters. -/
def L : GSem nD τ sig → Finset Unit := fun g => if g.1.2 = .tc then {()} else ∅
/-- All waits lie at one level. -/
def lv : GSem nD τ sig → Unit → ℕ := fun _ _ => 0

/-- What a core holds beside its buffers: it owes nothing, and its generator register. -/
def E (c : Dev nD) : sProp 𝕄 :=
  iprop((∃ Wd, owes (c : Thread nD τ) (0 : CellTallies nD τ sig Unit) Wd) ∗ (∃ r, prngReg c r) ∗ emp)

theorem cut (p : Fin 2) : Pipeline.LevelCut (nD := nD) (τ := τ) (pcfgs (F := F)) adm () L lv p 0 (fun _ => 0) where
  hι c w s := by simp [L]
  hιb c w s := le_refl _
  hD c g i h := absurd h (Nat.lt_irrefl 0)

theorem arrRefs_sub0 : Pipeline.arrRefs (τ := τ) spec0 ⊆ Pipeline.ucRefs τ sig := by decide +kernel
theorem arrRefs_sub1 : Pipeline.arrRefs (τ := τ) spec1 ⊆ Pipeline.ucRefs τ sig := by decide +kernel

set_option backward.isDefEq.respectTransparency.types false in
/-- The first kernel call's record. -/
def R0 : RegionSeg (pcfgs (F := F)) adm (pdats m) () defs₀ Variants.none L lv 0 :=
  RegionSeg.ofHeldIn (pcfgs (F := F)) adm (pdats m) () defs₀ Variants.none L lv 0 0 (Pipeline.ucRefs τ sig)
    (fun c => iprop(∃ r, prngReg c r)) (fun c => iprop(∃ r, prngReg c r)) launch0.toP rfl
    (fun c => (Amax.body_obligation (W0 m) c).loose) (fun _ _ => rfl) (fun _ => rfl) (fun c => (Amax.dat (W0 m) c).share_full fun _ => rfl)
    (fun c => Amax.hin (W0 m) c) (fun c => Amax.hout (W0 m) c) (fun _ => 0) (cut 0) (fun _ => iprop(emp)) (W0 m)
    (fun c w => Amax.A_eq (W0 m) c w)

set_option backward.isDefEq.respectTransparency.types false in
/-- The second kernel call's record. -/
def R1 : RegionSeg (pcfgs (F := F)) adm (pdats m) () defs₀ Variants.none L lv 1 :=
  RegionSeg.ofHeldIn (pcfgs (F := F)) adm (pdats m) () defs₀ Variants.none L lv 1 0 (Pipeline.ucRefs τ sig)
    (fun c => iprop(∃ r, prngReg c r)) (fun c => iprop(∃ r, prngReg c r)) launch1.toP rfl
    (fun c => (Quant.body_obligation (W1 m) c).loose) (fun _ _ => rfl) (fun _ => rfl) (fun c => (Quant.dat (W1 m) c).share_full fun _ => rfl)
    (fun c => Quant.hin (W1 m) c) (fun c => Quant.hout (W1 m) c) (fun _ => 0) (cut 1) (fun _ => iprop(emp)) (W1 m)
    (fun c w => Quant.A_eq (W1 m) c w)

set_option backward.isDefEq.respectTransparency.types false in
theorem R0_pre (c : Dev nD) : iprop(StableHlo.held (c.tc : Thread nD τ) (Pipeline.ucRefs τ sig) (W0 m c) ∗ E c) ⊢ (R0 m).pre c := by
  unfold R0 E
  exact RegionSeg.ofHeldIn_pre (pcs := pcfgs (F := F)) (p := 0) (D := 0) (X := fun c => iprop(∃ r, prngReg c r))
    (R := fun _ => iprop(emp)) (W := W0 m) arrRefs_sub0 c

theorem W1_eq (c : Dev nD) : W1 m c = afterRegion (cfg := Pipeline.pin (pcfgs (F := F)) adm 0) (pdats m 0 c) (W0 m c) := rfl

set_option backward.isDefEq.respectTransparency.types false in
theorem R0_post (c : Dev nD) : (R0 m).post c ⊢ iprop(StableHlo.held (c.tc : Thread nD τ) (Pipeline.ucRefs τ sig) (W1 m c) ∗ E c) := by
  rw [W1_eq]
  unfold R0 E
  exact RegionSeg.ofHeldIn_post (pcs := pcfgs (F := F)) (p := 0) arrRefs_sub0 c

set_option backward.isDefEq.respectTransparency.types false in
theorem R1_pre (c : Dev nD) : iprop(StableHlo.held (c.tc : Thread nD τ) (Pipeline.ucRefs τ sig) (W1 m c) ∗ E c) ⊢ (R1 m).pre c := by
  unfold R1 E
  exact RegionSeg.ofHeldIn_pre (pcs := pcfgs (F := F)) (p := 1) (D := 0) (X := fun c => iprop(∃ r, prngReg c r))
    (R := fun _ => iprop(emp)) (W := W1 m) arrRefs_sub1 c

theorem W2_eq (c : Dev nD) : W2 m c = afterRegion (cfg := Pipeline.pin (pcfgs (F := F)) adm 1) (pdats m 1 c) (W1 m c) := rfl

set_option backward.isDefEq.respectTransparency.types false in
theorem R1_post (c : Dev nD) : (R1 m).post c ⊢ iprop(StableHlo.held (c.tc : Thread nD τ) (Pipeline.ucRefs τ sig) (W2 m c) ∗ E c) := by
  rw [W2_eq]
  unfold R1 E
  exact RegionSeg.ofHeldIn_post (pcs := pcfgs (F := F)) (p := 1) arrRefs_sub1 c

/-- The host operations' record. -/
def seg2 : HostSeg (Name := ℕ) (U := UR sig nD τ) (pcfgs (F := F)) defs₀ Variants.none L lv :=
  HostSeg.ofOps (pcfgs (F := F)) defs₀ Variants.none L lv (Pipeline.ucRefs τ sig) hostOps2
    (fun op h => Pipeline.sub_ucRefs op ((List.forall_iff_forall_mem.mp hostOps2_sub) op h))
    (fun op h => (List.forall_iff_forall_mem.mp hostOps2_fresh) op h) (W2 m) E

set_option backward.isDefEq.respectTransparency.types false in
theorem run : θ_run defs (onTc (τ := τ) (main (F := F))) ⟨m, fun _ => 0, ρ⟩ (fun r => (∀ (c : Dev nD) (b : Ref sig .tc), b.isScoped = false →
      r.2.mem ((c.tc : Thread nD τ).loc b) = W3 m c (Proc.devRef .tc b)) ∧ r.2.sem = fun _ => 0) := by
  refine Pipeline.θ_run_regions_kit_dev_sems (pcfgs (F := F)) adm (pdats m) () cellOf_inj emb₁ defs₀ Variants.none L lv m ρ main
    (fun _ => [.region (R0 m), .region (R1 m), .host (seg2 m)])
    (fun c Q => by
      rewrite [main_chain c, Seg.run_eq_chain]
      exact .rfl)
    (fun c => by simp only [Seg.pipes_host, Seg.pipes_region, Seg.pipes_nil]; decide) 0
    (fun g hg => by simp [L, hg]) (fun _ => iprop(emp))
    (initOf (Pipeline.cells cfgs cellOf_inj) (Pipeline.launchToks cfgs cellOf_inj)) ?hu
    (T₀ := fun c => iprop(StableHlo.held (c : Thread nD τ) (Pipeline.ucRefs τ sig) (W0 m c) ∗ E c))
    (Tₙ := fun c => StableHlo.held (c : Thread nD τ) (Pipeline.ucRefs τ sig) (W3 m c))
    (hch := fun c => ⟨R0_pre m c, (R0_post m c).trans (R1_pre m c), R1_post m c, ?last⟩)
    (hinit := ?_) (QY := fun c s => ∀ b ∈ Pipeline.ucRefs τ sig, s.mem ((c.tc : Thread nD τ).1, b) = W3 m c b)
    (hfin := fun c s' => ?_)
    (hQ := fun _ h hz => ⟨fun c b hb => h c (Proc.devRef .tc b) (Pipeline.devRef_mem_ucRefs hb), funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c.tc : Thread nD τ) (Pipeline.ucRefs τ sig) (W3 m c) ∗ E c) ⊢ (_ : sProp 𝕄)
    unfold E
    iintro ⟨Hh, HO, -, -⟩
    isplitl [Hh] <;> iassumption
  · refine Pipeline.initEach L lv fun c => ?_
    rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
    unfold E
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    imodintro; iexact Hr

/-- A reference none of the program writes keeps its launch contents: the two calls' arrays that are inputs, and every
    other buffer. -/
theorem W3_arg0 (c : Dev nD) : W3 m c (Proc.devRef .tc main_arg0) = m ((c.tc : Thread nD τ).loc main_arg0) := by
  have h3 : W3 m c (Proc.devRef .tc main_arg0) = W2 m c (Proc.devRef .tc main_arg0) := by
    unfold W3 hostOps2; after_results
  rw [h3]
  unfold W2
  rw [Pipeline.afterRegion_keeps (Quant.dat (W1 m) c) (W1 m c) launch1.win.arr_inj (fun w => Quant.A_eq (W1 m) c w) main_arg0 (by decide)]
  unfold W1
  exact Pipeline.afterRegion_keeps (Amax.dat (W0 m) c) (W0 m c) launch0.win.arr_inj (fun w => Amax.A_eq (W0 m) c w) main_arg0 (by decide)

/-- The frame: every execution ends, the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1 c main_arg0 (by decide)).trans (W3_arg0 m c), h.2⟩) (run m ρ)

end Cert.KernelIdeal.Run

end
-- ==== Proof.Code.lean ====
/-
  The four-bit code of a clipped value: rounding half to even on the three binades of the format gives the same
  magnitude as counting the thresholds the absolute value passes.
-/
module

public import Idealize.ShloMosaic.PureOps.Ideal.Laws
public import Idealize.ShloMosaic.Lib.ValueIdxCore
public import Mathlib.Tactic.NormNum
public import Mathlib.Tactic.Ring
public import Mathlib.Tactic.Linarith

@[expose] public section

noncomputable section

namespace Cert.Code

open Idealize.ShloMosaic Idealize.ShloMosaic.ValueIdx

/-! ## The constants -/

theorem c_zero : Ideal.ofBits .f32 0x00000000#32 = ((0 : ℝ) : EReal) := by
  simp [Ideal.ofBits, Ideal.ieee, -EReal.coe_mul]
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_four : Ideal.ofBits .f32 0x40800000#32 = ((4 : ℝ) : EReal) := by
  simp [Ideal.ofBits, Ideal.ieee, -EReal.coe_mul]; norm_num
theorem c_five : Ideal.ofBits .f32 0x40A00000#32 = ((5 : ℝ) : EReal) := by
  simp [Ideal.ofBits, Ideal.ieee, -EReal.coe_mul]; norm_num
theorem c_six : Ideal.ofBits .f32 0x40C00000#32 = ((6 : ℝ) : EReal) := by
  simp [Ideal.ofBits, Ideal.ieee, -EReal.coe_mul]; norm_num
theorem c_neg_six : Ideal.ofBits .f32 0xC0C00000#32 = ((-6 : ℝ) : EReal) := by
  simp [Ideal.ofBits, Ideal.ieee, -EReal.coe_mul, -EReal.coe_neg]; norm_num
theorem c_eight : Ideal.ofBits .f32 0x41000000#32 = ((8 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_025 : Ideal.ofBits .f32 0x3E800000#32 = ((1 / 4 : ℝ) : EReal) := by
  simp [Ideal.ofBits, Ideal.ieee, -EReal.coe_mul]; norm_num
theorem c_075 : Ideal.ofBits .f32 0x3F400000#32 = ((3 / 4 : ℝ) : EReal) := by
  simp [Ideal.ofBits, Ideal.ieee, -EReal.coe_mul]; norm_num
theorem c_125 : Ideal.ofBits .f32 0x3FA00000#32 = ((5 / 4 : ℝ) : EReal) := by
  simp [Ideal.ofBits, Ideal.ieee, -EReal.coe_mul]; norm_num
theorem c_175 : Ideal.ofBits .f32 0x3FE00000#32 = ((7 / 4 : ℝ) : EReal) := by
  simp [Ideal.ofBits, Ideal.ieee, -EReal.coe_mul]; norm_num
theorem c_25 : Ideal.ofBits .f32 0x40200000#32 = ((5 / 2 : ℝ) : EReal) := by
  simp [Ideal.ofBits, Ideal.ieee, -EReal.coe_mul]; norm_num
theorem c_35 : Ideal.ofBits .f32 0x40600000#32 = ((7 / 2 : ℝ) : EReal) := by
  simp [Ideal.ofBits, Ideal.ieee, -EReal.coe_mul]; norm_num
theorem c_2688 : Ideal.ofBits .f32 0x45280000#32 = ((2688 : ℝ) : EReal) := by
  simp [Ideal.ofBits, Ideal.ieee, -EReal.coe_mul]; norm_num
theorem c_bot : Ideal.ofBits .f32 0xFF800000#32 = ⊥ := by
  simp [Ideal.ofBits, Ideal.ieee]
theorem c_bot16 : Ideal.ofBits .bf16 0xFF80#16 = ⊥ := by
  simp [Ideal.ofBits, Ideal.ieee]
theorem c_zero16 : Ideal.ofBits .bf16 0x0000#16 = 0 := by
  simp [Ideal.ofBits, Ideal.ieee]

/-! ## Selecting by a comparison -/

theorem select_olt {α : Type} (x y : EReal) (a b : α) : Scalar.select (Ideal.cmp .olt x y) a b = if x < y then a else b := by
  unfold Ideal.cmp; by_cases h : x < y <;> simp [h, Scalar.select]
theorem select_ogt {α : Type} (x y : EReal) (a b : α) : Scalar.select (Ideal.cmp .ogt x y) a b = if y < x then a else b := by
  unfold Ideal.cmp; by_cases h : y < x <;> simp [h, Scalar.select]
theorem select_oeq {α : Type} (x y : EReal) (a b : α) : Scalar.select (Ideal.cmp .oeq x y) a b = if x = y then a else b := by
  unfold Ideal.cmp; by_cases h : x = y <;> simp [h, Scalar.select]

/-! ## The magnitude -/

/-- A decided fact as a number. -/
def ind (p : Prop) [Decidable p] : ℕ := if p then 1 else 0

open scoped Classical in
/-- The number of thresholds between neighbouring magnitudes that `a` passes (a tie goes to the even code). -/
def mag (a : ℝ) : ℕ :=
  ind (1 / 4 < a) + ind (3 / 4 ≤ a) + ind (5 / 4 < a) + ind (7 / 4 ≤ a) + ind (5 / 2 < a) + ind (7 / 2 ≤ a) + ind (5 < a)

/-- The rounded integer, from the interval it lies in. -/
theorem round_eq (n : ℤ) (r : ℝ) (h1 : (n : ℝ) - 1 / 2 ≤ r) (h2 : r ≤ n + 1 / 2)
    (he : Even n ∨ ((n : ℝ) - 1 / 2 < r ∧ r < n + 1 / 2)) : Ideal.roundHalfEven r = n := by
  unfold Ideal.roundHalfEven
  dsimp only
  by_cases hn : (n : ℝ) ≤ r
  · have hf : ⌊r⌋ = n := Int.floor_eq_iff.2 ⟨hn, by linarith⟩
    rw [hf]
    by_cases h : r - n < 1 / 2
    · rw [if_pos h]
    · rw [if_neg h, if_neg (by linarith)]
      rcases he with he | he
      · rw [if_pos he]
      · exact absurd he.2 (by linarith)
  · have hf : ⌊r⌋ = n - 1 := Int.floor_eq_iff.2 ⟨by push_cast; linarith, by push_cast; linarith⟩
    rw [hf]
    push_cast
    rw [if_neg (by linarith)]
    by_cases h : 1 / 2 < r - ((n : ℝ) - 1)
    · rw [if_pos h]; ring
    · rw [if_neg h]
      rcases he with he | he
      · rw [if_neg (by rw [Int.even_sub_one]; exact fun h' => h' he)]; ring
      · exact absurd he.1 (by linarith)

/-- The magnitude by rounding in the binade. -/
def roundMag (a : ℝ) : ℤ :=
  open scoped Classical in
  if a < 2 then Ideal.roundHalfEven (a * 2) else if a < 4 then Ideal.roundHalfEven a + 2 else Ideal.roundHalfEven (a * (1 / 2)) + 4

theorem mag_lt (a : ℝ) : mag a < 8 := by
  unfold mag ind; split_ifs <;> omega

set_option maxHeartbeats 1000000 in
theorem roundMag_eq (a : ℝ) (h0 : 0 ≤ a) (h6 : a ≤ 6) : roundMag a = mag a := by
  unfold roundMag
  by_cases a1 : a ≤ 1 / 4
  · rw [if_pos (by linarith), round_eq 0 _ (by push_cast; linarith) (by push_cast; linarith) (.inl (by decide))]
    unfold mag ind
    rw [if_neg (by linarith), if_neg (by linarith), if_neg (by linarith), if_neg (by linarith), if_neg (by linarith), if_neg (by linarith), if_neg (by linarith)]
    rfl
  by_cases a2 : a < 3 / 4
  · rw [if_pos (by linarith), round_eq 1 _ (by push_cast; linarith) (by push_cast; linarith) (.inr ⟨by push_cast; linarith, by push_cast; linarith⟩)]
    unfold mag ind
    rw [if_pos (by linarith), if_neg (by linarith), if_neg (by linarith), if_neg (by linarith), if_neg (by linarith), if_neg (by linarith), if_neg (by linarith)]
    rfl
  by_cases a3 : a ≤ 5 / 4
  · rw [if_pos (by linarith), round_eq 2 _ (by push_cast; linarith) (by push_cast; linarith) (.inl (by decide))]
    unfold mag ind
    rw [if_pos (by linarith), if_pos (by linarith), if_neg (by linarith), if_neg (by linarith), if_neg (by linarith), if_neg (by linarith), if_neg (by linarith)]
    rfl
  by_cases a4 : a < 7 / 4
  · rw [if_pos (by linarith), round_eq 3 _ (by push_cast; linarith) (by push_cast; linarith) (.inr ⟨by push_cast; linarith, by push_cast; linarith⟩)]
    unfold mag ind
    rw [if_pos (by linarith), if_pos (by linarith), if_pos (by linarith), if_neg (by linarith), if_neg (by linarith), if_neg (by linarith), if_neg (by linarith)]
    rfl
  by_cases a5 : a < 2
  · rw [if_pos (by linarith), round_eq 4 _ (by push_cast; linarith) (by push_cast; linarith) (.inl (by decide))]
    unfold mag ind
    rw [if_pos (by linarith), if_pos (by linarith), if_pos (by linarith), if_pos (by linarith), if_neg (by linarith), if_neg (by linarith), if_neg (by linarith)]
    rfl
  by_cases a6 : a ≤ 5 / 2
  · rw [if_neg a5, if_pos (by linarith), round_eq 2 _ (by push_cast; linarith) (by push_cast; linarith) (.inl (by decide))]
    unfold mag ind
    rw [if_pos (by linarith), if_pos (by linarith), if_pos (by linarith), if_pos (by linarith), if_neg (by linarith), if_neg (by linarith), if_neg (by linarith)]
    rfl
  by_cases a7 : a < 7 / 2
  · rw [if_neg a5, if_pos (by linarith), round_eq 3 _ (by push_cast; linarith) (by push_cast; linarith) (.inr ⟨by push_cast; linarith, by push_cast; linarith⟩)]
    unfold mag ind
    rw [if_pos (by linarith), if_pos (by linarith), if_pos (by linarith), if_pos (by linarith), if_pos (by linarith), if_neg (by linarith), if_neg (by linarith)]
    rfl
  by_cases a8 : a < 4
  · rw [if_neg a5, if_pos (by linarith), round_eq 4 _ (by push_cast; linarith) (by push_cast; linarith) (.inl (by decide))]
    unfold mag ind
    rw [if_pos (by linarith), if_pos (by linarith), if_pos (by linarith), if_pos (by linarith), if_pos (by linarith), if_pos (by linarith), if_neg (by linarith)]
    rfl
  by_cases a9 : a ≤ 5
  · rw [if_neg a5, if_neg a8, round_eq 2 _ (by push_cast; linarith) (by push_cast; linarith) (.inl (by decide))]
    unfold mag ind
    rw [if_pos (by linarith), if_pos (by linarith), if_pos (by linarith), if_pos (by linarith), if_pos (by linarith), if_pos (by linarith), if_neg (by linarith)]
    rfl
  · rw [if_neg a5, if_neg a8, round_eq 3 _ (by push_cast; linarith) (by push_cast; linarith) (.inr ⟨by push_cast; linarith, by push_cast; linarith⟩)]
    unfold mag ind
    rw [if_pos (by linarith), if_pos (by linarith), if_pos (by linarith), if_pos (by linarith), if_pos (by linarith), if_pos (by linarith), if_pos (by linarith)]
    rfl

/-! ## A clipped value -/

/-- A value clipped to `[-6, 6]`. -/
def clip (y : EReal) : EReal := min ((6 : ℝ) : EReal) (max ((-6 : ℝ) : EReal) y)

/-- A clipped value is a real between the bounds. -/
theorem clip_real (y : EReal) : ∃ r : ℝ, clip y = (r : EReal) ∧ -6 ≤ r ∧ r ≤ 6 := by
  have h1 : clip y ≤ ((6 : ℝ) : EReal) := min_le_left _ _
  have h2 : ((-6 : ℝ) : EReal) ≤ clip y := le_min (by exact_mod_cast (by norm_num : (-6 : ℝ) ≤ 6)) (le_max_left _ _)
  have ht : clip y ≠ ⊤ := fun h => by rw [h] at h1; exact absurd (lt_of_le_of_lt h1 (EReal.coe_lt_top _)) (lt_irrefl _)
  have hb : clip y ≠ ⊥ := fun h => by rw [h] at h2; exact absurd (lt_of_lt_of_le (EReal.bot_lt_coe _) h2) (lt_irrefl _)
  refine ⟨(clip y).toReal, (EReal.coe_toReal ht hb).symm, ?_, ?_⟩
  · rw [← EReal.coe_le_coe_iff, EReal.coe_toReal ht hb]; exact h2
  · rw [← EReal.coe_le_coe_iff, EReal.coe_toReal ht hb]; exact h1

open scoped Classical in
/-- The code before the sign of a zero is dropped. -/
def rawCode (r : ℝ) : ℕ := mag |r| + if r < 0 then 8 else 0

open scoped Classical in
/-- The code: the magnitude, and eight more for a negative value of nonzero magnitude. -/
def code (r : ℝ) : ℕ := mag |r| + if r < 0 ∧ 0 < mag |r| then 8 else 0

theorem rawCode_lt (r : ℝ) : rawCode r < 16 := by
  unfold rawCode; have := mag_lt |r|; split_ifs <;> omega

theorem code_lt (r : ℝ) : code r < 16 := by
  unfold code; have := mag_lt |r|; split_ifs <;> omega

/-- The code as a number of the clipped value. -/
def codeE (v : EReal) : ℕ := code v.toReal

/-- The absolute value of a real. -/
theorem abs_coe (r : ℝ) : max (r : EReal) (-(r : EReal)) = ((|r| : ℝ) : EReal) := by
  rw [← EReal.coe_neg]
  rcases le_total 0 r with h | h
  · rw [abs_of_nonneg h, max_eq_left]; exact_mod_cast (by linarith : -r ≤ r)
  · rw [abs_of_nonpos h, max_eq_right]; exact_mod_cast (by linarith : r ≤ -r)

/-- The kernel's arithmetic on a clipped value, as it is written. -/
def kernelCode (v : EReal) : BitVec 32 :=
  let a := max v (-v)
  let q := Scalar.select (Ideal.cmp .olt a ((2 : ℝ) : EReal)) (Ideal.liftRound Ideal.roundHalfEven (a * ((2 : ℝ) : EReal)))
    (Scalar.select (Ideal.cmp .olt a ((4 : ℝ) : EReal)) (Ideal.liftRound Ideal.roundHalfEven a + ((2 : ℝ) : EReal))
      (Ideal.liftRound Ideal.roundHalfEven (a * ((1 / 2 : ℝ) : EReal)) + ((4 : ℝ) : EReal)))
  Ideal.fptosi 32 (Scalar.select (Ideal.cmp .olt v ((0 : ℝ) : EReal)) (q + ((8 : ℝ) : EReal)) q)

theorem fptosi_nat (n : ℕ) (h : n < 16) : Ideal.fptosi 32 (((n : ℝ)) : EReal) = BitVec.ofNat 32 n := by
  unfold Ideal.fptosi
  rw [Ideal.toIntClamped_coe, if_pos (Nat.cast_nonneg n), Int.floor_natCast]
  rw [min_eq_right (by norm_num; omega), max_eq_right (by norm_num)]
  exact BitVec.ofInt_natCast 32 n

theorem kernelCode_eq (r : ℝ) (h1 : -6 ≤ r) (h2 : r ≤ 6) : kernelCode (r : EReal) = BitVec.ofNat 32 (rawCode r) := by
  have hq := roundMag_eq |r| (abs_nonneg r) (abs_le.2 ⟨h1, h2⟩)
  unfold kernelCode
  dsimp only
  rw [abs_coe, select_olt, select_olt, select_olt]
  simp only [← EReal.coe_mul, Ideal.liftRound_coe, ← EReal.coe_add, EReal.coe_lt_coe_iff]
  have e : (if |r| < 2 then (((Ideal.roundHalfEven (|r| * 2) : ℤ) : ℝ) : EReal)
      else if |r| < 4 then (((Ideal.roundHalfEven |r| : ℤ) + 2 : ℝ) : EReal)
        else (((Ideal.roundHalfEven (|r| * (1 / 2)) : ℤ) + 4 : ℝ) : EReal)) = (((mag |r| : ℕ) : ℝ) : EReal) := by
    rw [show ((mag |r| : ℕ) : ℝ) = ((roundMag |r| : ℤ) : ℝ) by rw [hq]; norm_cast]
    unfold roundMag
    split_ifs <;> push_cast <;> rfl
  rw [e, ← EReal.coe_add]
  have hr := rawCode_lt r
  rw [← fptosi_nat _ hr]
  congr 1
  unfold rawCode
  split_ifs <;> push_cast <;> simp

/-- The reference's count of thresholds on a clipped value, as it is written. -/
def refMag (a : EReal) : BitVec 32 :=
  (Ideal.cmp .ogt a ((1 / 4 : ℝ) : EReal)).setWidth 32 + (Ideal.cmp .oge a ((3 / 4 : ℝ) : EReal)).setWidth 32
    + (Ideal.cmp .ogt a ((5 / 4 : ℝ) : EReal)).setWidth 32 + (Ideal.cmp .oge a ((7 / 4 : ℝ) : EReal)).setWidth 32
    + (Ideal.cmp .ogt a ((5 / 2 : ℝ) : EReal)).setWidth 32 + (Ideal.cmp .oge a ((7 / 2 : ℝ) : EReal)).setWidth 32
    + (Ideal.cmp .ogt a ((5 : ℝ) : EReal)).setWidth 32

open scoped Classical in
theorem setWidth_ogt (a b : ℝ) : (Ideal.cmp .ogt (a : EReal) (b : EReal)).setWidth 32 = BitVec.ofNat 32 (ind (b < a)) := by
  unfold Ideal.cmp ind; by_cases h : b < a <;> simp [h]

open scoped Classical in
theorem setWidth_oge (a b : ℝ) : (Ideal.cmp .oge (a : EReal) (b : EReal)).setWidth 32 = BitVec.ofNat 32 (ind (b ≤ a)) := by
  unfold Ideal.cmp ind; by_cases h : b ≤ a <;> simp [h]

theorem refMag_eq (a : ℝ) : refMag (a : EReal) = BitVec.ofNat 32 (mag a) := by
  unfold refMag mag
  simp only [setWidth_ogt, setWidth_oge, BitVec.ofNat_add]

/-- The reference's code of a clipped value, as it is written. -/
def refCode (v : EReal) : BitVec 32 :=
  let m := refMag (max v (-v))
  Scalar.select (IntOp.andi (Ideal.cmp .olt v ((0 : ℝ) : EReal)) (IntOp.cmpi .sgt m 0#32)) (IntOp.ori m 8#32) m

theorem refCode_eq (r : ℝ) : refCode (r : EReal) = BitVec.ofNat 32 (code r) := by
  unfold refCode code
  dsimp only
  rw [abs_coe, refMag_eq]
  have hm := mag_lt |r|
  have h8 (b : Bool) : Scalar.select (IntOp.andi (BitVec.ofBool b) (IntOp.cmpi .sgt (BitVec.ofNat 32 (mag |r|)) 0#32))
      (IntOp.ori (BitVec.ofNat 32 (mag |r|)) 8#32) (BitVec.ofNat 32 (mag |r|))
        = BitVec.ofNat 32 (mag |r| + if b = true ∧ 0 < mag |r| then 8 else 0) := by
    generalize mag |r| = m at hm
    revert m b; decide
  have := h8 (decide ((r : EReal) < ((0 : ℝ) : EReal)))
  simp only [decide_eq_true_eq, EReal.coe_lt_coe_iff] at this
  rw [← this]
  unfold Ideal.cmp
  simp

end Cert.Code

end
-- ==== Proof.Spec.lean ====
/-
  The quantisation by coordinates: the global scale, the block scales, the packed codes, as functions of the
  tensor's elements.
-/
module

public import proofs.«01_k».proof.Proof.Code

@[expose] public section

noncomputable section

namespace Cert.Spec

open Idealize.ShloMosaic Idealize.ShloMosaic.ValueIdx Cert.Code

/-- The absolute value. -/
def absE (x : EReal) : EReal := max x (-x)

/-- The greatest absolute value of the tensor. -/
def amax (X : (⟨3, ![48, 1024, 1792]⟩ : Shape).Idx → EReal) : EReal := Finset.univ.fold max ⊥ fun i => absE (X i)

/-- The global scale from the greatest absolute value. -/
def gscale (a : EReal) : EReal := if ((0 : ℝ) : EReal) < a then a * ((1 / 2688 : ℝ) : EReal) else ((1 : ℝ) : EReal)

/-- The greatest absolute value of a block of sixteen. -/
def bmax (f : Fin 16 → EReal) : EReal := (Finset.univ : Finset (Fin 16)).fold max ⊥ fun r => absE (f r)

/-- The block scale, from the global scale and the block's greatest absolute value. -/
def bscale (s b : EReal) : EReal := min (Ideal.div b (((6 : ℝ) : EReal) * s)) (Ideal.ofBits .f32 0x43E00000#32)

/-- The divisor of a block's elements. -/
def eff (s q : EReal) : EReal := if q * s = ((0 : ℝ) : EReal) then ((1 : ℝ) : EReal) else q * s

/-- An element scaled and clipped. -/
def val (s q x : EReal) : EReal := clip (Ideal.div x (eff s q))

/-- Two codes in a byte, the even element's low. -/
def byte (lo hi : ℕ) : BitVec 8 := BitVec.ofNat 8 (lo + 16 * hi)

/-- Row `16 k + r` of the tensor. -/
abbrev row (k : Fin 64) (r : Fin 16) : Fin 1024 := ⟨16 * k.val + r.val, by omega⟩

/-- The tensor's elements. -/
abbrev Tensor := (⟨3, ![48, 1024, 1792]⟩ : Shape).Idx → EReal

/-- The block scale at batch `b`, block row `k`, column `c`. -/
def scaleAt (s : EReal) (X : Tensor) (b : Fin 48) (k : Fin 64) (c : Fin 1792) : EReal :=
  bscale s (bmax fun r => X (ix3 b (row k r) c))

/-- The scaled and clipped element at batch `b`, row `i`, column `c`. -/
def valAt (s : EReal) (X : Tensor) (b : Fin 48) (i : Fin 1024) (c : Fin 1792) : EReal :=
  val s (scaleAt s X b ⟨i.val / 16, by omega⟩ c) (X (ix3 b i c))

/-- The packed byte at batch `b`, column `c`, byte row `j`. -/
def byteAt (s : EReal) (X : Tensor) (b : Fin 48) (c : Fin 1792) (j : Fin 512) : BitVec 8 :=
  byte (codeE (valAt s X b ⟨2 * j.val, by omega⟩ c)) (codeE (valAt s X b ⟨2 * j.val + 1, by omega⟩ c))

/-- The packed bytes as an array. -/
def packedA (s : EReal) (X : Tensor) : (⟨3, ![48, 1792, 512]⟩ : Shape).Idx → BitVec 8 := fun j => byteAt s X (j 0) (j 1) (j 2)

/-- The block scales as an array, columns before block rows. -/
def scaleA (s : EReal) (X : Tensor) : (⟨3, ![48, 1792, 64]⟩ : Shape).Idx → EReal := fun j => scaleAt s X (j 0) (j 2) (j 1)

theorem packedA_apply (s : EReal) (X : Tensor) (b : Fin 48) (c : Fin 1792) (j : Fin 512) : packedA s X (ix3 b c j) = byteAt s X b c j := rfl

theorem scaleA_apply (s : EReal) (X : Tensor) (b : Fin 48) (c : Fin 1792) (k : Fin 64) : scaleA s X (ix3 b c k) = scaleAt s X b k c := rfl

theorem eff_ne (s q : EReal) : eff s q ≠ 0 := by
  unfold eff; split
  · rw [EReal.coe_one]; exact one_ne_zero
  · next h => exact fun h' => h (by rw [h']; rfl)

/-- Multiplying by the reciprocal of a nonzero divisor is dividing by it. -/
theorem mul_recip (x e : EReal) (h : e ≠ 0) : x * Ideal.div ((1 : ℝ) : EReal) e = Ideal.div x e := by
  unfold Ideal.div
  rw [if_neg h, if_neg h, EReal.coe_one, one_mul]

/-- The fold of the greatest absolute value is the least bound. -/
theorem fold_le {ι : Type*} (S : Finset ι) (f : ι → EReal) (b c : EReal) :
    S.fold max b f ≤ c ↔ b ≤ c ∧ ∀ i ∈ S, f i ≤ c := Finset.fold_max_le c

theorem absE_nonneg (x : EReal) : 0 ≤ absE x := by
  unfold absE
  rcases le_total 0 x with h | h
  · exact le_max_of_le_left h
  · exact le_max_of_le_right (by rw [EReal.le_neg]; simpa using h)

end Cert.Spec

end
-- ==== Proof.IAmaxValue.lean ====
/-
  The first kernel call's result: the global scale, from the greatest absolute value of the tensor.
-/
module

public import proofs.«01_k».proof.Proof.IAmax
public import proofs.«01_k».proof.Proof.Spec
public import Idealize.ShloMosaic.Lib.ValueLayout
public import Idealize.ShloMosaic.Lib.VecWindow
public import Idealize.ShloMosaic.PureOps.Ideal.Laws
public import Idealize.ShloMosaic.PureOps.IdealRules

@[expose] public section

set_option maxRecDepth 16384

noncomputable section

namespace Cert.KernelIdeal.Amax

open Cert.KernelIdeal Cert.KernelIdeal.Gen
open Idealize.ShloMosaic Idealize.ShloMosaic.TcCoe Idealize.ShloMosaic.ValueIdx
open Cert.Code Cert.Spec

/-! ## The payloads -/

theorem pay1_apply (r : Fin 16) (c : Fin 1792) : (k0_pay1 (F := Ideal)) (ix2 r c) = (0 : EReal) := by
  unfold k0_pay1
  rw [shapeCast_self]
  show Ideal.ofBits .bf16 0x0000#16 = 0
  exact c_zero16

/-- The absolute values of a batch, its rows in blocks of sixteen. -/
def colSrc (x : Vec Ideal S1x1024x1792 .bf16) : FVec Ideal S64x16x1792 .bf16 :=
  shapeCast S64x16x1792 (absf (F := Ideal) (φ := .bf16) (shapeCast S1024x1792 x shapeCasts_S1x1024x1792_S1024x1792)) shapeCasts_S1024x1792_S64x16x1792

/-- The fold over the sixty-four blocks of a batch's rows. -/
def colMax (x : Vec Ideal S1x1024x1792 .bf16) : FVec Ideal S16x1792 .bf16 :=
  multiReduction .maximumf [0] S16x1792 (colSrc x)
    0xFF80#16 reduces_S64x16x1792_S16x1792 (.inr rfl) rfl

theorem colMax_le (x : Vec Ideal S1x1024x1792 .bf16) (r : Fin 16) (c : Fin 1792) (z : EReal) :
    (colMax x (ix2 r c) : EReal) ≤ z ↔ ∀ k : Fin 64, absE (x (ix3 (0 : Fin 1) (row k r) c)) ≤ z := by
  have e : ∀ k : Fin 64, colSrc x (Shape.Reduces.lift reduces_S64x16x1792_S16x1792 (ix2 r c) k) = absE (x (ix3 (0 : Fin 1) (row k r) c)) := fun k => by
    have hl : Shape.Reduces.lift reduces_S64x16x1792_S16x1792 (ix2 r c) k = ix3 k r c := by
      funext a; apply Fin.ext
      match a with
      | ⟨0, _⟩ => rfl
      | ⟨1, _⟩ => rfl
      | ⟨2, _⟩ => rfl
    refine (congrArg (colSrc x) hl).trans ?_
    unfold colSrc
    rw [shapeCast_apply _ shapeCasts_S1024x1792_S64x16x1792 (ix3 k r c) (ix2 (row k r) c) (by
      rw [Shape.rowMajor_val_three, Shape.rowMajor_val_two]
      show (16 * k.val + r.val) * 1792 + c.val = (k.val * 16 + r.val) * 1792 + c.val
      omega)]
    show absE (shapeCast S1024x1792 x shapeCasts_S1x1024x1792_S1024x1792 (ix2 (row k r) c)) = _
    rw [shapeCast_1ab_ab_apply]
  have h : (colMax x (ix2 r c) : EReal) = (Finset.univ : Finset (Fin 64)).fold max ⊥ fun k => absE (x (ix3 (0 : Fin 1) (row k r) c)) := by
    unfold colMax
    refine (Ideal.multiReduction_maximumf_single _ _ _ _ _ _).trans ?_
    rw [show (colSrc x ∘ Shape.Reduces.lift reduces_S64x16x1792_S16x1792 (ix2 r c)) = fun k : Fin 64 => absE (x (ix3 (0 : Fin 1) (row k r) c)) from funext e]
    rw [← c_bot16]
    rfl
  rw [h, fold_le]
  simp

theorem pay2_le (x : Vec Ideal S1x1024x1792 .bf16) (v : Vec Ideal S16x1792 .bf16) (r : Fin 16) (c : Fin 1792) (z : EReal) :
    (k0_pay2 x v (ix2 r c) : EReal) ≤ z ↔ (v (ix2 r c) : EReal) ≤ z ∧ ∀ k : Fin 64, absE (x (ix3 (0 : Fin 1) (row k r) c)) ≤ z := by
  have h : k0_pay2 x v = maximumf v (colMax x) := by
    unfold k0_pay2
    exact shapeCast_self _ _
  rw [h, ← colMax_le]
  show max (v (ix2 r c) : EReal) (colMax x (ix2 r c)) ≤ z ↔ _
  exact max_le_iff

/-- The scratch with a leading axis. -/
def totSrc (v : Vec Ideal S16x1792 .bf16) : FVec Ideal S1x16x1792 .f32 :=
  shapeCast S1x16x1792 (extf (F := Ideal) .f32 v bitsLt_bf16_f32) shapeCasts_S16x1792_S1x16x1792

theorem totSrc_apply (v : Vec Ideal S16x1792 .bf16) (u : Fin 1) (r : Fin 16) (c : Fin 1792) : totSrc v (ix3 u r c) = v (ix2 r c) := by
  unfold totSrc
  rw [shapeCast_ab_1ab_apply]
  rfl

/-- The fold over the scratch. -/
def total (v : Vec Ideal S16x1792 .bf16) : EReal :=
  extractAt ![0, 0, 0] (shapeCast S1x1x1 (multiReduction (F := Ideal) .maximumf [1, 2] S1 (totSrc v)
    0xFF800000#32 reduces_S1x16x1792_S1 (.inl rfl) rfl) shapeCasts_S1_S1x1x1) inpos_S1x1x1_p0_0_0

theorem total_le (v : Vec Ideal S16x1792 .bf16) (z : EReal) : total v ≤ z ↔ ∀ r c, (v (ix2 r c) : EReal) ≤ z := by
  have h : total v = (Finset.univ : Finset S1x16x1792.Idx).fold max (⊥ : EReal) (fun i => (totSrc v i : EReal)) := by
    unfold total
    show shapeCast S1x1x1 _ shapeCasts_S1_S1x1x1 (ix3 (0 : Fin 1) (0 : Fin 1) (0 : Fin 1)) = _
    rw [shapeCast_apply _ shapeCasts_S1_S1x1x1 (ix3 (0 : Fin 1) (0 : Fin 1) (0 : Fin 1)) (ix1 (0 : Fin 1)) rfl]
    refine (multiReduction_maximumf_eq_fold _ _ _ _ _ _).trans ?_
    rw [Finset.filter_true_of_mem fun i _ => funext fun a => Fin.ext (by
      match a with
      | ⟨0, _⟩ =>
        have h1 := (Shape.Reduces.drop reduces_S1x16x1792_S1 i ⟨0, by decide⟩).isLt
        have h2 : S1.size ⟨0, by decide⟩ = 1 := rfl
        exact Nat.lt_one_iff.mp (lt_of_lt_of_eq h1 h2))]
    rw [← c_bot]
    rfl
  rw [h, fold_le]
  constructor
  · intro hz r c
    have := hz.2 (ix3 (0 : Fin 1) r c) (Finset.mem_univ _)
    rw [totSrc_apply] at this
    exact this
  · intro hz
    refine ⟨bot_le, fun i _ => ?_⟩
    obtain ⟨u, r, c, rfl⟩ : ∃ (u : Fin 1) (r : Fin 16) (c : Fin 1792), i = ix3 u r c := ⟨i 0, i 1, i 2, eq_ix3 i⟩
    rw [totSrc_apply]
    exact hz r c

theorem pay3_eq (v : Vec Ideal S16x1792 .bf16) : k0_pay3 v = gscale (total v) := by
  have h : k0_pay3 v = Scalar.select (Scalar.cmpf (F := Ideal) (φ := .f32) .ogt (total v) (Scalar.ofBits .f32 0x00000000#32))
      (Scalar.mulf (F := Ideal) (φ := .f32) (total v) (Named.named κ "inv_2688" 0x39C30C31#32)) (Scalar.ofBits .f32 0x3F800000#32) := by
    unfold k0_pay3; rfl
  rw [h]
  generalize total v = a
  rw [IdealRules.named_const.ideal_named_scalar κ "inv_2688" _ ((1 / 2688 : ℝ) : EReal) rfl]
  refine (select_ogt a (Ideal.ofBits .f32 0x00000000#32) _ _).trans ?_
  rw [c_zero]
  unfold gscale
  rw [← c_one]
  rfl

/-! ## What each point leaves -/

section Points

variable (c : Dev nD) (i : grid0.Coords) (arg1 : Memref sig .tc .vmem S1x1024x1792 .bf16) (harg1 : arg1.IsWhole) (arg2 : Memref sig .tc .smem S1x1 .f32) (harg2 : arg2.IsWhole) (arg3 : Memref sig .tc .vmem S16x1792 .bf16) (harg3 : arg3.IsWhole)
  (x0 : Vec Ideal S1x1024x1792 .bf16) (xs0 : Vec Ideal S16x1792 .bf16)

theorem load1 : View.readAt (Elt Ideal) arg1.view (Rect.unit (s := S1x1024x1792) ![0, 0, 0] S1x1024x1792.size inb_S1x1024x1792_S1x1024x1792_0_0_0).toLoadRect (harg1.unread x0) = x0 :=
  (View.readAt_full arg1.view _ inb_S1x1024x1792_S1x1024x1792_0_0_0).trans (harg1.read_unread x0)
theorem load3 : View.readAt (Elt Ideal) arg3.view (Rect.unit (s := S16x1792) ![0, 0] S16x1792.size inb_S16x1792_S16x1792_0_0).toLoadRect (harg3.unread xs0) = xs0 :=
  (View.readAt_full arg3.view _ inb_S16x1792_S16x1792_0_0).trans (harg3.read_unread xs0)

theorem sout_A (hc0 : cond0_0 i) (hc1 : ¬cond0_1 i) :
    sout0_A_0 c i arg1 harg1 arg2 harg2 arg3 harg3 hc0 hc1 x0 = k0_pay2 x0 (k0_pay1 (F := Ideal)) := by
  unfold sout0_A_0 kernelRun0_A
  dsimp only
  refine (View.read_writes_full _ _ inb_S16x1792_S16x1792_0_0 _ _).trans ?_
  have h8 : kernelRun0_A.sl.v8 (F := Ideal) c arg3 = k0_pay1 (F := Ideal) := by
    unfold kernelRun0_A.sl.v8
    exact View.readCov_full arg3.view inb_S16x1792_S16x1792_0_0 inb_S16x1792_S16x1792_0_0 _ _
  rw [h8]
  exact congrArg (k0_pay2 · _) (load1 arg1 harg1 x0)

theorem sout_B (hc0 : ¬cond0_0 i) (hc1 : ¬cond0_1 i) :
    sout0_B_0 c i arg1 harg1 arg2 harg2 arg3 harg3 hc0 hc1 x0 xs0 = k0_pay2 x0 xs0 := by
  unfold sout0_B_0 kernelRun0_B
  dsimp only
  refine (View.read_writes_full _ _ inb_S16x1792_S16x1792_0_0 _ _).trans ?_
  exact congrArg₂ k0_pay2 (load1 arg1 harg1 x0) (load3 arg3 harg3 xs0)

theorem out_C (hc0 : ¬cond0_0 i) (hc1 : cond0_1 i) :
    out0_C_1 c i arg1 harg1 arg2 harg2 arg3 harg3 hc0 hc1 x0 xs0 = fun _ => k0_pay3 (k0_pay2 x0 xs0) := by
  unfold out0_C_1 kernelRun0_C
  dsimp only
  refine (View.read_writes_full _ _ inb_S1x1_S1x1_0_0 _ _).trans ?_
  have h16 : kernelRun0_C.sl.v16 c arg1 harg1 arg3 harg3 x0 xs0 = k0_pay2 x0 xs0 :=
    (View.readCov_full arg3.view inb_S16x1792_S16x1792_0_0 inb_S16x1792_S16x1792_0_0 _ _).trans
      (congrArg₂ k0_pay2 (load1 arg1 harg1 x0) (load3 arg3 harg3 xs0))
  rw [h16]
  rfl

end Points

/-! ## The whole array -/

variable (W : Dev nD → Valuation τ sig (Elt Ideal)) (c : Dev nD)

/-- The tensor the call finds. -/
abbrev XA : Tensor := V W c (Pipeline.arrRef spec0 0)

theorem index0 : ∀ t : Fin cfg0.N, win0_0.index t = ![t.val, 0, 0] :=
  (by decide +kernel : ∀ t : Fin grid0.N, win0_0.index t = ![t.val, 0, 0])

theorem lt48 (t : Fin cfg0.N) : t.val < 48 := lt_of_lt_of_eq t.isLt (show cfg0.N = 48 from N_0)

theorem iblk0 (t : Fin cfg0.N) (i : Fin 1024) (col : Fin 1792) :
    iblk W c 0 t (ix3 (0 : Fin 1) i col) = XA W c (ix3 (⟨t.val, lt48 t⟩ : Fin 48) i col) := by
  unfold iblk
  refine congrArg (V W c (Pipeline.arrRef spec0 0)) (funext fun a => Fin.ext ?_)
  refine (win0_0.rect_emb_val t _ a).trans ?_
  rw [index0]
  match a with
  | ⟨0, _⟩ => show t.val * 1 + 0 = t.val; omega
  | ⟨1, _⟩ => show 0 * 1024 + i.val = i.val; omega
  | ⟨2, _⟩ => show 0 * 1792 + col.val = col.val; omega

/-- What bounds the scratch after point `n`: the zero it starts from and the absolute values of the batches so far. -/
theorem scratch_le (r : Fin 16) (col : Fin 1792) (z : EReal) : ∀ (n : ℕ) (hn : n < cfg0.N), n < 47 →
    (((outsAt0 W c n hn).2 (ix2 r col) : EReal) ≤ z ↔ 0 ≤ z ∧ ∀ (b : Fin 48), b.val ≤ n → ∀ k : Fin 64, absE (XA W c (ix3 b (row k r) col)) ≤ z) := by
  intro n
  induction n with
  | zero =>
    intro hn _
    have h := outsAt0_A W c ⟨0, hn⟩ rfl (by show ¬0 % 48 = 47; decide)
    dsimp only at h
    rw [h]
    dsimp only
    rw [sout_A, pay2_le, pay1_apply]
    refine and_congr_right fun _ => ?_
    simp only [iblk0 W c ⟨0, hn⟩]
    constructor
    · intro H b hb k
      have : b = ⟨0, by omega⟩ := Fin.ext (by show b.val = 0; omega)
      rw [this]; exact H k
    · intro H k; exact H _ (le_refl _) k
  | succ n ih =>
    intro hn hlt
    have h := outsAt0_B W c ⟨n + 1, hn⟩ (by show ¬(n + 1) % 48 = 0; omega) (by show ¬(n + 1) % 48 = 47; omega)
    dsimp only [Nat.add_sub_cancel] at h
    rw [h]
    dsimp only
    rw [sout_B, pay2_le]
    simp only [iblk0 W c ⟨n + 1, hn⟩]
    have hi := ih (Nat.lt_of_succ_lt hn) (by omega)
    constructor
    · rintro ⟨H1, H2⟩
      obtain ⟨h0, H3⟩ := hi.mp H1
      refine ⟨h0, fun b hb k => ?_⟩
      rcases Nat.lt_or_ge b.val (n + 1) with hb' | hb'
      · exact H3 b (by omega) k
      · have : b = ⟨n + 1, by omega⟩ := Fin.ext (by show b.val = n + 1; omega)
        rw [this]; exact H2 k
    · rintro ⟨h0, H⟩
      exact ⟨hi.mpr ⟨h0, fun b hb k => H b (by omega) k⟩, fun k => H _ (le_refl _) k⟩

/-- The last point. -/
abbrev tLast : Fin cfg0.N := ⟨47, by rw [show cfg0.N = 48 from N_0]; omega⟩

theorem flush1 : ∀ t : Fin cfg0.N, (cfg0.win 1).flush t = true ↔ t.val = 47 :=
  (by decide +kernel : ∀ t : Fin grid0.N, win0_1.flush t = true ↔ t.val = 47)

/-- The greatest absolute value the last point folds is the tensor's. -/
theorem total_last : total (k0_pay2 (iblk W c 0 tLast) (outsAt0 W c 46 (by rw [show cfg0.N = 48 from N_0]; omega)).2) = amax (XA W c) := by
  refine eq_of_forall_ge_iff fun z => ?_
  rw [total_le]
  unfold amax
  rw [fold_le]
  have hx := fun i col => iblk0 W c tLast i col
  constructor
  · intro H
    refine ⟨bot_le, fun i _ => ?_⟩
    obtain ⟨b, j, col, rfl⟩ : ∃ (b : Fin 48) (j : Fin 1024) (col : Fin 1792), i = ix3 b j col := ⟨i 0, i 1, i 2, eq_ix3 i⟩
    have hj : j = row ⟨j.val / 16, by omega⟩ ⟨j.val % 16, by omega⟩ := Fin.ext (by show j.val = 16 * (j.val / 16) + j.val % 16; omega)
    rw [hj]
    obtain ⟨H1, H2⟩ := (pay2_le _ _ _ _ _).mp (H ⟨j.val % 16, by omega⟩ col)
    obtain ⟨h0, H3⟩ := (scratch_le W c _ _ z 46 _ (by omega)).mp H1
    rcases Nat.lt_or_ge b.val 47 with hb | hb
    · exact H3 b (by omega) _
    · have hb' : b = ⟨47, by omega⟩ := Fin.ext (by show b.val = 47; omega)
      rw [hb']
      have := H2 ⟨j.val / 16, by omega⟩
      rw [hx] at this
      exact this
  · rintro ⟨-, H⟩ r col
    have H' : ∀ (b : Fin 48) (k : Fin 64), absE (XA W c (ix3 b (row k r) col)) ≤ z := fun b k => H _ (Finset.mem_univ _)
    refine (pay2_le _ _ _ _ _).mpr ⟨(scratch_le W c _ _ z 46 _ (by omega)).mpr ⟨(absE_nonneg _).trans (H' 0 0), fun b _ k => H' b k⟩, fun k => ?_⟩
    rw [hx]
    exact H' _ k

/-- The global scale after the call. -/
theorem sg_at : (dat W c).arrAt 1 cfg0.N (ix2 (0 : Fin 1) (0 : Fin 1)) = gscale (amax (XA W c)) := by
  have hemb : ((cfg0.win 1).blk tLast).view.emb (ix2 (0 : Fin 1) (0 : Fin 1)) = ix2 (0 : Fin 1) (0 : Fin 1) :=
    funext fun a => Fin.ext (by
      match a with
      | ⟨0, _⟩ => rfl
      | ⟨1, _⟩ => rfl)
  have hval := (dat W c).arrAt_emb_eq_flushed 1
    (fun t t' h h' hne => absurd (Fin.ext (((flush1 t).mp h).trans ((flush1 t').mp h').symm)) hne) tLast ((flush1 _).mpr rfl) (ix2 (0 : Fin 1) (0 : Fin 1))
  rw [hemb] at hval
  refine hval.trans ?_
  have hf : (dat W c).flushed 1 tLast = (cfg0.win 1).cut (grid0.coords tLast) ((outsAt0 W c 47 tLast.isLt).1) := by
    show (cfg0.win 1).cut (grid0.coords tLast) ((dat W c).after 1 tLast) = _
    rw [after0_1]
  have h := outsAt0_C W c tLast (by show ¬47 % 48 = 0; omega) rfl
  dsimp only at h
  rw [hf, h]
  dsimp only
  rw [out_C, pay3_eq]
  have ht : total (k0_pay2 (iblk W c 0 tLast) (outsAt0 W c (47 - 1) (Nat.lt_of_le_of_lt (Nat.sub_le _ _) tLast.isLt)).2) = amax (XA W c) := total_last W c
  rw [ht]
  generalize gscale (amax (XA W c)) = g
  rfl

end Cert.KernelIdeal.Amax

end
-- ==== Proof.Nibbles.lean ====
/-
  Words of eight four-bit codes: clearing the sign bit of every code whose magnitude bits are zero, done on the
  whole word at once, does it code by code.
-/
module

public import Idealize.ShloMosaic.Lib.WordSum
public import Mathlib.Algebra.BigOperators.Fin
public import Mathlib.Algebra.Order.BigOperators.Group.Finset
public import Mathlib.Tactic.NormNum
public import Mathlib.Tactic.Ring

@[expose] public section

namespace Cert.Nibbles

/-- The mask of `k` codes with the three magnitude bits of each set. -/
def mask : ℕ → ℕ
  | 0 => 0
  | k + 1 => 7 + 16 * mask k

/-- What the word arithmetic does to the first `k` codes of `w`. -/
def clean (k w : ℕ) : ℕ := w &&& (((w &&& mask k) + mask k) ||| mask k)

/-- What it does to one code: a zero magnitude loses its sign. -/
def clean1 (n : ℕ) : ℕ := if n % 8 = 0 then 0 else n

theorem land_split (x y : ℕ) : x &&& y = ((x % 16) &&& (y % 16)) + 16 * ((x / 16) &&& (y / 16)) := by
  have h1 : (x &&& y) % 2 ^ 4 = x % 2 ^ 4 &&& y % 2 ^ 4 := Nat.and_mod_two_pow
  have h2 : (x &&& y) / 2 ^ 4 = x / 2 ^ 4 &&& y / 2 ^ 4 := Nat.and_div_two_pow
  norm_num at h1 h2
  rw [← h1, ← h2]; omega

theorem lor_split (x y : ℕ) : x ||| y = ((x % 16) ||| (y % 16)) + 16 * ((x / 16) ||| (y / 16)) := by
  have h1 : (x ||| y) % 2 ^ 4 = x % 2 ^ 4 ||| y % 2 ^ 4 := Nat.or_mod_two_pow
  have h2 : (x ||| y) / 2 ^ 4 = x / 2 ^ 4 ||| y / 2 ^ 4 := Nat.or_div_two_pow
  norm_num at h1 h2
  rw [← h1, ← h2]; omega

theorem one_code (n : ℕ) (h : n < 16) : n &&& (((n &&& 7) + 7) ||| 7) = clean1 n := by
  revert n; decide

theorem one_code_lt (n : ℕ) (h : n < 16) : (n &&& 7) + 7 < 16 := by
  revert n; decide

theorem clean1_lt (n : ℕ) (h : n < 16) : clean1 n < 16 := by
  unfold clean1; split <;> omega

/-- The first code is cleaned by itself, the others as a shorter word. -/
theorem clean_succ (k w : ℕ) : clean (k + 1) w = clean1 (w % 16) + 16 * clean k (w / 16) := by
  have hm : mask (k + 1) = 7 + 16 * mask k := rfl
  have hm0 : mask (k + 1) % 16 = 7 := by omega
  have hm1 : mask (k + 1) / 16 = mask k := by omega
  have hA := land_split w (mask (k + 1))
  rw [hm0, hm1] at hA
  have hlt := one_code_lt (w % 16) (Nat.mod_lt _ (by norm_num))
  have hS0 : ((w &&& mask (k + 1)) + mask (k + 1)) % 16 = ((w % 16) &&& 7) + 7 := by omega
  have hS1 : ((w &&& mask (k + 1)) + mask (k + 1)) / 16 = ((w / 16) &&& mask k) + mask k := by omega
  have hO := lor_split ((w &&& mask (k + 1)) + mask (k + 1)) (mask (k + 1))
  rw [hm0, hm1, hS0, hS1] at hO
  have hor : ((w % 16 &&& 7) + 7) ||| 7 < 16 := Nat.or_lt_two_pow (n := 4) hlt (by norm_num)
  have hO0 : (((w &&& mask (k + 1)) + mask (k + 1)) ||| mask (k + 1)) % 16 = ((w % 16 &&& 7) + 7) ||| 7 := by omega
  have hO1 : (((w &&& mask (k + 1)) + mask (k + 1)) ||| mask (k + 1)) / 16 = ((w / 16 &&& mask k) + mask k) ||| mask k := by omega
  unfold clean
  rw [land_split w, hO0, hO1, one_code _ (Nat.mod_lt _ (by norm_num))]

/-- The word arithmetic on a 32-bit word, which does not overflow. -/
theorem toNat_clean (w : BitVec 32) :
    (w &&& (((w &&& 2004318071#32) + 2004318071#32) ||| 2004318071#32)).toNat = clean 8 w.toNat := by
  have hm : mask 8 = 2004318071 := by norm_num [mask]
  have hc : (2004318071#32 : BitVec 32).toNat = 2004318071 := by rw [BitVec.toNat_ofNat]
  have hlt : (w.toNat &&& 2004318071) + 2004318071 < 2 ^ 32 :=
    lt_of_le_of_lt (Nat.add_le_add_right Nat.and_le_right _) (by norm_num)
  rw [BitVec.toNat_and, BitVec.toNat_or, BitVec.toNat_add, BitVec.toNat_and, hc, Nat.mod_eq_of_lt hlt, clean, hm]

/-- The low two codes of a number are its low byte, -/
theorem low_byte (a b r : ℕ) (ha : a < 16) (hb : b < 16) : (a + 16 * (b + 16 * r)) % 256 = a + 16 * b := by omega

/-- … and the rest is what lies above it. -/
theorem above_byte (a b r : ℕ) (ha : a < 16) (hb : b < 16) : (a + 16 * (b + 16 * r)) / 256 = r := by omega

/-- A code is cleaned off the low end of a word. -/
theorem clean_cons (k a r : ℕ) (ha : a < 16) : clean (k + 1) (a + 16 * r) = clean1 a + 16 * clean k r := by
  rw [clean_succ, show (a + 16 * r) % 16 = a by omega, show (a + 16 * r) / 16 = r by omega]

/-- Two codes are cleaned off the low end of a word. -/
theorem clean_cons₂ (k a b r : ℕ) (ha : a < 16) (hb : b < 16) :
    clean (k + 2) (a + 16 * (b + 16 * r)) = clean1 a + 16 * (clean1 b + 16 * clean k r) := by
  rw [clean_cons _ _ _ ha, clean_cons _ _ _ hb]

/-- Byte `b` of the cleaned word is the two cleaned codes at places `2 b` and `2 b + 1`. -/
theorem clean_byte (n : Fin 8 → ℕ) (hn : ∀ i, n i < 16) (b : Fin 4) :
    clean 8 (∑ i : Fin 8, n i * 16 ^ i.val) / 256 ^ b.val % 256
      = clean1 (n ⟨2 * b.val, by omega⟩) + 16 * clean1 (n ⟨2 * b.val + 1, by omega⟩) := by
  have hs : ∑ i : Fin 8, n i * 16 ^ i.val
      = n 0 + 16 * (n 1 + 16 * (n 2 + 16 * (n 3 + 16 * (n 4 + 16 * (n 5 + 16 * (n 6 + 16 * (n 7 + 16 * 0))))))) := by
    rw [Fin.sum_univ_eight]
    show n 0 * 16 ^ 0 + n 1 * 16 ^ 1 + n 2 * 16 ^ 2 + n 3 * 16 ^ 3 + n 4 * 16 ^ 4 + n 5 * 16 ^ 5 + n 6 * 16 ^ 6 + n 7 * 16 ^ 7 = _
    ring
  have c (i : Fin 8) : clean1 (n i) < 16 := clean1_lt _ (hn i)
  rw [hs, clean_cons₂ 6 _ _ _ (hn 0) (hn 1), clean_cons₂ 4 _ _ _ (hn 2) (hn 3), clean_cons₂ 2 _ _ _ (hn 4) (hn 5),
    clean_cons₂ 0 _ _ _ (hn 6) (hn 7)]
  generalize clean 0 0 = z
  match b with
  | ⟨0, _⟩ =>
    show _ / 256 ^ 0 % 256 = clean1 (n 0) + 16 * clean1 (n 1)
    rw [pow_zero, Nat.div_one, low_byte _ _ _ (c 0) (c 1)]
  | ⟨1, _⟩ =>
    show _ / 256 ^ 1 % 256 = clean1 (n 2) + 16 * clean1 (n 3)
    rw [pow_one, above_byte _ _ _ (c 0) (c 1), low_byte _ _ _ (c 2) (c 3)]
  | ⟨2, _⟩ =>
    show _ / 256 ^ 2 % 256 = clean1 (n 4) + 16 * clean1 (n 5)
    rw [pow_two, ← Nat.div_div_eq_div_mul, above_byte _ _ _ (c 0) (c 1), above_byte _ _ _ (c 2) (c 3), low_byte _ _ _ (c 4) (c 5)]
  | ⟨3, _⟩ =>
    show _ / 256 ^ 3 % 256 = clean1 (n 6) + 16 * clean1 (n 7)
    rw [pow_succ, pow_two, ← Nat.div_div_eq_div_mul, ← Nat.div_div_eq_div_mul, above_byte _ _ _ (c 0) (c 1),
      above_byte _ _ _ (c 2) (c 3), above_byte _ _ _ (c 4) (c 5), low_byte _ _ _ (c 6) (c 7)]

/-- Eight codes placed in a word stay inside it. -/
theorem sum_lt (n : Fin 8 → ℕ) (hn : ∀ i, n i < 16) : ∑ i : Fin 8, n i * 16 ^ i.val < 2 ^ 32 := by
  calc ∑ i : Fin 8, n i * 16 ^ i.val ≤ ∑ i : Fin 8, 15 * 16 ^ i.val :=
        Finset.sum_le_sum fun i _ => Nat.mul_le_mul_right _ (by have := hn i; omega)
    _ < 2 ^ 32 := by decide

end Cert.Nibbles
-- ==== Proof.IChunk.lean ====
/-
  One chunk of 128 columns of the quantiser, read at an index: its block scales and its packed codes.
-/
module

public import proofs.«01_k».proof.Proof.Gen.KernelIdeal.Skeleton
public import proofs.«01_k».proof.Proof.Spec
public import proofs.«01_k».proof.Proof.Nibbles
public import Idealize.ShloMosaic.PureOps.Ideal.Laws
public import Idealize.ShloMosaic.Lib.ValueLayout
public import Idealize.ShloMosaic.Lib.WordSum
public import Idealize.ShloMosaic.Lib.BitcastPair

@[expose] public section

set_option maxRecDepth 16384

noncomputable section

namespace Cert.KernelIdeal.Chunk

open Cert.KernelIdeal Cert.KernelIdeal.Gen
open Idealize.ShloMosaic Idealize.ShloMosaic.ValueIdx
open Cert.Code Cert.Spec Cert.Nibbles

/-- The chunk's elements as the body loads them. -/
abbrev Chunk := Vec Ideal S1x512x128 .bf16

/-- Row `16 k + r` of a chunk. -/
abbrev row16 (k : Fin 32) (r : Fin 16) : Fin 512 := ⟨16 * k.val + r.val, by omega⟩

variable (s : Ideal .f32) (x : Chunk)

theorem pay2_apply (k : Fin 32) (r : Fin 16) (c : Fin 128) : k1_pay2 x (ix3 k r c) = x (ix3 (0 : Fin 1) (row16 k r) c) := by
  unfold k1_pay2
  rw [shapeCast_apply _ shapeCasts_S512x128_S32x16x128 (ix3 k r c) (ix2 (row16 k r) c) (by
    rw [Shape.rowMajor_val_three, Shape.rowMajor_val_two]
    show (16 * k.val + r.val) * 128 + c.val = (k.val * 16 + r.val) * 128 + c.val
    omega)]
  exact shapeCast_1ab_ab_apply x _ _ _

/-- The block scale of the chunk at block row `k`, column `c`. -/
def q (k : Fin 32) (c : Fin 128) : EReal := bscale s (bmax fun r => x (ix3 (0 : Fin 1) (row16 k r) c))

/-- The greatest absolute value of each block of the chunk. -/
def bm : FVec Ideal S32x128 .bf16 :=
  multiReduction .maximumf [1] S32x128 (absf (k1_pay2 x)) 0xFF80#16 reduces_S32x16x128_S32x128 (.inr rfl) rfl

theorem bm_apply (k : Fin 32) (c : Fin 128) : bm x (ix2 k c) = bmax fun r => x (ix3 (0 : Fin 1) (row16 k r) c) := by
  have e : ∀ r : Fin 16, (absf (k1_pay2 x) ∘ Shape.Reduces.lift reduces_S32x16x128_S32x128 (ix2 k c)) r = absE (x (ix3 (0 : Fin 1) (row16 k r) c)) := fun r => by
    have hl : Shape.Reduces.lift reduces_S32x16x128_S32x128 (ix2 k c) r = ix3 k r c := by
      funext a; apply Fin.ext
      match a with
      | ⟨0, _⟩ => rfl
      | ⟨1, _⟩ => rfl
      | ⟨2, _⟩ => rfl
    show absf (k1_pay2 x) (Shape.Reduces.lift reduces_S32x16x128_S32x128 (ix2 k c) r) = _
    rw [hl]
    show absE (k1_pay2 x (ix3 k r c)) = _
    rw [pay2_apply]
  refine (Ideal.multiReduction_maximumf_single _ _ _ _ _ _).trans ?_
  rw [show (absf (k1_pay2 x) ∘ Shape.Reduces.lift reduces_S32x16x128_S32x128 (ix2 k c)) = fun r : Fin 16 => absE (x (ix3 (0 : Fin 1) (row16 k r) c)) from funext e]
  unfold bmax
  rw [← c_bot16]
  rfl

theorem pay3_apply (k : Fin 32) (c : Fin 128) : k1_pay3 s x (ix2 k c) = q s x k c := by
  have h0 : k1_pay3 s x (ix2 k c) = min (Ideal.div (bm x (ix2 k c)) (Ideal.ofBits .f32 0x40C00000#32 * s)) (Ideal.ofBits .f32 0x43E00000#32) := by
    have h1 : k1_pay3 s x = truncf .fp8e4m3 (minimumf (divf (extf .f32 (bm x) bitsLt_bf16_f32) (broadcast S32x128 (Scalar.mulf (Scalar.ofBits .f32 0x40C00000#32) s)))
      (broadcast S32x128 (Scalar.ofBits .f32 0x43E00000#32))) bitsLt_fp8e4m3_f32 := rfl
    rw [h1]
    generalize bm x = A
    rw [show ∀ (A B : FVec Ideal S32x128 .f32) (j : S32x128.Idx), truncf .fp8e4m3 (minimumf A B) bitsLt_fp8e4m3_f32 j = min (A j) (B j) from fun _ _ _ => rfl,
      show ∀ (A B : FVec Ideal S32x128 .f32) (j : S32x128.Idx), divf A B j = Ideal.div (A j) (B j) from fun _ _ _ => rfl]
    rfl
  rw [h0, bm_apply, c_six]
  rfl

theorem pay4_apply (u : Fin 1) (k : Fin 32) (c : Fin 128) : k1_pay4 s x (ix3 u k c) = q s x k c := by
  unfold k1_pay4
  rw [shapeCast_ab_1ab_apply, pay3_apply]

/-- The scaled and clipped element of the chunk at row `i`, column `c`. -/
def v (i : Fin 512) (c : Fin 128) : EReal := val s (q s x ⟨i.val / 16, by omega⟩ c) (x (ix3 (0 : Fin 1) i c))

theorem pay5_apply (i : Fin 512) (c : Fin 128) : k1_pay5 s x (ix2 i c) = v s x i c := by
  unfold k1_pay5
  rw [shapeCast_apply _ shapeCasts_S32x16x128_S512x128 (ix2 i c) (ix3 (⟨i.val / 16, by omega⟩ : Fin 32) (⟨i.val % 16, by omega⟩ : Fin 16) c) (by
    rw [Shape.rowMajor_val_three, Shape.rowMajor_val_two]
    show (i.val / 16 * 16 + i.val % 16) * 128 + c.val = i.val * 128 + c.val
    omega)]
  generalize hk : (⟨i.val / 16, by omega⟩ : Fin 32) = k
  generalize hr : (⟨i.val % 16, by omega⟩ : Fin 16) = r
  have hi : i = row16 k r := Fin.ext (by subst hk hr; show i.val = 16 * (i.val / 16) + i.val % 16; omega)
  have hk' : (⟨(row16 k r).val / 16, by omega⟩ : Fin 32) = k := Fin.ext (by show (16 * k.val + r.val) / 16 = k.val; omega)
  subst hi
  unfold v
  rw [hk']
  rw [show ∀ (A B C : FVec Ideal S32x16x128 .f32) (j : S32x16x128.Idx), minimumf A (maximumf B C) j = min (A j) (max (B j) (C j)) from fun _ _ _ _ => rfl]
  show min (Ideal.ofBits .f32 0x40C00000#32) (max (Ideal.ofBits .f32 0xC0C00000#32)
    (k1_pay2 x (ix3 k r c) * broadcastTo S32x16x128 (shapeCast S32x1x128 (divf (broadcast S32x128 (Scalar.ofBits (F := Ideal) .f32 0x3F800000#32)) (select (cmpf .oeq (mulf (extf .f32 (k1_pay3 s x) bitsLt_fp8e4m3_f32) (broadcast S32x128 s)) (broadcast S32x128 (Scalar.ofBits (F := Ideal) .f32 0x00000000#32))) (broadcast S32x128 (Scalar.ofBits (F := Ideal) .f32 0x3F800000#32)) (mulf (extf .f32 (k1_pay3 s x) bitsLt_fp8e4m3_f32) (broadcast S32x128 s)))) shapeCasts_S32x128_S32x1x128) broadcasts_S32x1x128_S32x16x128 (ix3 k r c))) = _
  rw [broadcastTo_apply _ broadcasts_S32x1x128_S32x16x128 (ix3 k r c) (ix3 k (0 : Fin 1) c) (fun a => match a with
    | ⟨0, _⟩ => rfl | ⟨1, _⟩ => rfl | ⟨2, _⟩ => rfl)]
  rw [shapeCast_apply _ shapeCasts_S32x128_S32x1x128 (ix3 k (0 : Fin 1) c) (ix2 k c) (by
    rw [Shape.rowMajor_val_three, Shape.rowMajor_val_two]
    show k.val * 128 + c.val = (k.val * 1 + 0) * 128 + c.val
    omega)]
  show min (Ideal.ofBits .f32 0x40C00000#32) (max (Ideal.ofBits .f32 0xC0C00000#32)
    (k1_pay2 x (ix3 k r c) * Ideal.div (Ideal.ofBits .f32 0x3F800000#32) (Scalar.select (Ideal.cmp .oeq (k1_pay3 s x (ix2 k c) * s) (Ideal.ofBits .f32 0x00000000#32)) (Ideal.ofBits .f32 0x3F800000#32) (k1_pay3 s x (ix2 k c) * s)))) = _
  rw [pay2_apply, pay3_apply, select_oeq, c_six, c_neg_six, c_one, c_zero]
  unfold val clip
  rw [← mul_recip _ _ (eff_ne s (q s x k c))]
  rfl

/-- The code of an element of the chunk. -/
def n (i : Fin 512) (c : Fin 128) : ℕ := rawCode (v s x i c).toReal

theorem v_real (i : Fin 512) (c : Fin 128) : ∃ r : ℝ, v s x i c = (r : EReal) ∧ -6 ≤ r ∧ r ≤ 6 := clip_real _

/-- The codes of the chunk as the body computes them. -/
def codes : IVec S512x128 32 := fun j => kernelCode (k1_pay5 s x j)

theorem codes_apply (i : Fin 512) (c : Fin 128) : codes s x (ix2 i c) = BitVec.ofNat 32 (n s x i c) := by
  unfold codes n
  rw [pay5_apply]
  obtain ⟨r, hr, h1, h2⟩ := v_real s x i c
  rw [hr, kernelCode_eq r h1 h2, EReal.toReal_coe]

/-- The word of eight codes, and the same with the signs of zeros cleared. -/
def word : IVec S64x128 32 :=
  multiReductionI .add [1] S64x128 (shli (shapeCast S64x8x128 (codes s x) shapeCasts_S512x128_S64x8x128)
    (muli (broadcast S64x8x128 4#32) (iota .tc S64x8x128 32 [1] iota_S64x8x128_d1_w32))) 0#32 reduces_S64x8x128_S64x128 rfl
def cleanWord : IVec S64x128 32 :=
  andi (word s x) (ori (addi (andi (word s x) (broadcast S64x128 2004318071#32)) (broadcast S64x128 2004318071#32)) (broadcast S64x128 2004318071#32))

/-- The packed codes of the chunk, as the body stores them. -/
def packed : IVec S1x128x256 8 := k1_pay9 (k1_pay5 s x) (k1_pay6 s x) (k1_pay7 s x) (k1_pay8 s x)

theorem packed_eq : packed s x = shapeCast S1x128x256 (transpose S128x256 [1, 0] (bitcast S256x128 8 (cleanWord s x) bitcasts_S64x128_w32_S256x128_w8)
    transposes_S256x128_p1_0_S128x256) shapeCasts_S128x256_S1x128x256 := by
  have e : codes s x = fptosi 32 (select (cmpf .olt (k1_pay5 s x) (broadcast S512x128 (Scalar.ofBits (F := Ideal) .f32 0x00000000#32)))
      (addf (select (k1_pay7 s x) (roundeven (k1_pay8 s x)) (select (cmpf .olt (k1_pay6 s x) (broadcast S512x128 (Scalar.ofBits (F := Ideal) .f32 0x40800000#32)))
        (addf (roundeven (k1_pay6 s x)) (broadcast S512x128 (Scalar.ofBits (F := Ideal) .f32 0x40000000#32)))
        (addf (roundeven (mulf (k1_pay6 s x) (broadcast S512x128 (Scalar.ofBits (F := Ideal) .f32 0x3F000000#32)))) (broadcast S512x128 (Scalar.ofBits (F := Ideal) .f32 0x40800000#32)))))
        (broadcast S512x128 (Scalar.ofBits (F := Ideal) .f32 0x41000000#32)))
      (select (k1_pay7 s x) (roundeven (k1_pay8 s x)) (select (cmpf .olt (k1_pay6 s x) (broadcast S512x128 (Scalar.ofBits (F := Ideal) .f32 0x40800000#32)))
        (addf (roundeven (k1_pay6 s x)) (broadcast S512x128 (Scalar.ofBits (F := Ideal) .f32 0x40000000#32)))
        (addf (roundeven (mulf (k1_pay6 s x) (broadcast S512x128 (Scalar.ofBits (F := Ideal) .f32 0x3F000000#32)))) (broadcast S512x128 (Scalar.ofBits (F := Ideal) .f32 0x40800000#32)))))) := by
    funext j
    unfold codes kernelCode
    rw [← c_two, ← c_four, ← c_half, ← c_zero, ← c_eight]
    rfl
  unfold packed cleanWord word
  rw [e]
  rfl

theorem word_apply (w : Fin 64) (c : Fin 128) :
    (word s x (ix2 w c)).toNat = ∑ i : Fin 8, n s x ⟨8 * w.val + i.val, by omega⟩ c * 16 ^ i.val := by
  have hlift : ∀ i : Fin 8, Shape.Reduces.lift reduces_S64x8x128_S64x128 (ix2 w c) i = ix3 w i c := fun i => by
    funext a; apply Fin.ext
    match a with
    | ⟨0, _⟩ => rfl
    | ⟨1, _⟩ => rfl
    | ⟨2, _⟩ => rfl
  have hterm : ∀ i : Fin 8, (shli (shapeCast S64x8x128 (codes s x) shapeCasts_S512x128_S64x8x128)
      (muli (broadcast S64x8x128 4#32) (iota .tc S64x8x128 32 [1] iota_S64x8x128_d1_w32)) (ix3 w i c)).toNat
      = n s x ⟨8 * w.val + i.val, by omega⟩ c * 16 ^ i.val := fun i => by
    show (IntOp.shli .vector (shapeCast S64x8x128 (codes s x) shapeCasts_S512x128_S64x8x128 (ix3 w i c))
      (IntOp.muli 4#32 (iota .tc S64x8x128 32 [1] iota_S64x8x128_d1_w32 (ix3 w i c)))).toNat = _
    rw [shapeCast_apply _ shapeCasts_S512x128_S64x8x128 (ix3 w i c) (ix2 (⟨8 * w.val + i.val, by omega⟩ : Fin 512) c) (by
        rw [Shape.rowMajor_val_three, Shape.rowMajor_val_two]
        show (8 * w.val + i.val) * 128 + c.val = (w.val * 8 + i.val) * 128 + c.val
        omega), codes_apply, iota_single_apply]
    have hn : n s x ⟨8 * w.val + i.val, by omega⟩ c < 16 := rawCode_lt _
    generalize n s x ⟨8 * w.val + i.val, by omega⟩ c = m at hn
    show (IntOp.shli .vector (BitVec.ofNat 32 m) (IntOp.muli 4#32 (BitVec.ofNat 32 i.val))).toNat = _
    clear hlift
    revert m i; decide
  have hsum : ∑ j ∈ Finset.univ.filter (fun j => Shape.Reduces.drop reduces_S64x8x128_S64x128 j = ix2 w c),
      (shli (shapeCast S64x8x128 (codes s x) shapeCasts_S512x128_S64x8x128)
        (muli (broadcast S64x8x128 4#32) (iota .tc S64x8x128 32 [1] iota_S64x8x128_d1_w32)) j).toNat
      = ∑ i : Fin 8, n s x ⟨8 * w.val + i.val, by omega⟩ c * 16 ^ i.val := by
    rw [Shape.Reduces.sum_filter_drop_single reduces_S64x8x128_S64x128 (fun j => (shli (shapeCast S64x8x128 (codes s x) shapeCasts_S512x128_S64x8x128)
        (muli (broadcast S64x8x128 4#32) (iota .tc S64x8x128 32 [1] iota_S64x8x128_d1_w32)) j).toNat) (ix2 w c)]
    exact Finset.sum_congr rfl fun i _ => by
      exact (congrArg (fun j => (shli (shapeCast S64x8x128 (codes s x) shapeCasts_S512x128_S64x8x128)
        (muli (broadcast S64x8x128 4#32) (iota .tc S64x8x128 32 [1] iota_S64x8x128_d1_w32)) j).toNat) (hlift i)).trans (hterm i)
  unfold word
  rw [WordSum.toNat_multiReductionI_add _ _ rfl _ (by rw [hsum]; exact sum_lt _ fun i => rawCode_lt _), hsum]

theorem cleanWord_apply (w : Fin 64) (c : Fin 128) : (cleanWord s x (ix2 w c)).toNat = clean 8 (word s x (ix2 w c)).toNat :=
  toNat_clean (word s x (ix2 w c))

/-- Byte `j` of a column is byte `j % 4` of its word `j / 4`. -/
theorem bytes_apply (y : IVec S64x128 32) (j : Fin 256) (c : Fin 128) :
    bitcast S256x128 8 y bitcasts_S64x128_w32_S256x128_w8 (ix2 j c)
      = BitVec.ofNat 8 ((y (ix2 (⟨j.val / 4, by omega⟩ : Fin 64) c)).toNat / 256 ^ (j.val % 4) % 256) := by
  apply BitVec.eq_of_getLsbD_eq
  intro i hi
  rw [bitcast_getLsbD y _ (ix2 j c) i hi (by decide)]
  have hrow : S256x128.row (ix2 j c) = j.val := rfl
  have hsrc : ∀ p (hp : ∀ a : Fin S64x128.rank, a.val + 2 = S64x128.rank → p < S64x128.size a) (e : p = j.val / 4),
      Shape.Bitcasts.srcIdx bitcasts_S64x128_w32_S256x128_w8 (ix2 j c) p hp = ix2 (⟨j.val / 4, by omega⟩ : Fin 64) c := fun p hp e => by
    subst e
    funext a; apply Fin.ext
    match a with
    | ⟨0, _⟩ => rfl
    | ⟨1, _⟩ => rfl
  rw [hsrc _ _ (by rw [hrow]; omega), hrow, show (j.val * 8 + i) % 32 = 8 * (j.val % 4) + i by omega]
  generalize y (ix2 (⟨j.val / 4, by omega⟩ : Fin 64) c) = z
  rw [BitVec.getLsbD_ofNat, BitVec.getLsbD, show (z.toNat / 256 ^ (j.val % 4) % 256) = z.toNat / 2 ^ (8 * (j.val % 4)) % 2 ^ 8 by rw [pow_mul]; norm_num, Nat.testBit_mod_two_pow, Nat.testBit_div_two_pow]
  simp [hi, Nat.add_comm]

/-- A cleaned code is the reference's code. -/
theorem clean1_rawCode (r : ℝ) : clean1 (rawCode r) = code r := by
  unfold clean1 rawCode code
  have := mag_lt |r|
  by_cases h : r < 0 <;> by_cases h0 : 0 < mag |r| <;> simp only [h, h0, if_true, if_false, and_true, and_false, true_and, false_and] <;> split_ifs <;> omega

theorem packed_apply (u : Fin 1) (c : Fin 128) (j : Fin 256) :
    packed s x (ix3 u c j) = byte (codeE (v s x ⟨2 * j.val, by omega⟩ c)) (codeE (v s x ⟨2 * j.val + 1, by omega⟩ c)) := by
  rw [packed_eq, shapeCast_ab_1ab_apply, transpose_ix2_apply, bytes_apply, cleanWord_apply, word_apply]
  rw [clean_byte (fun i => n s x ⟨8 * (j.val / 4) + i.val, by omega⟩ c) (fun i => rawCode_lt _) ⟨j.val % 4, by omega⟩]
  dsimp only
  have e1 : (⟨8 * (j.val / 4) + 2 * (j.val % 4), by omega⟩ : Fin 512) = ⟨2 * j.val, by omega⟩ := Fin.ext (by show 8 * (j.val / 4) + 2 * (j.val % 4) = 2 * j.val; omega)
  have e2 : (⟨8 * (j.val / 4) + (2 * (j.val % 4) + 1), by omega⟩ : Fin 512) = ⟨2 * j.val + 1, by omega⟩ := Fin.ext (by show 8 * (j.val / 4) + (2 * (j.val % 4) + 1) = 2 * j.val + 1; omega)
  rw [e1, e2]
  unfold n
  rw [clean1_rawCode, clean1_rawCode]
  rfl

end Cert.KernelIdeal.Chunk

end
-- ==== Proof.IQuantValue.lean ====
/-
  The second kernel call's results by coordinates: the packed codes and the block scales its pipeline leaves, from
  the tensor and the global scale it finds.
-/
module

public import proofs.«01_k».proof.Proof.IQuant
public import proofs.«01_k».proof.Proof.IChunk
public import Idealize.ShloMosaic.Lib.WholeRead

@[expose] public section

set_option maxRecDepth 16384

noncomputable section

namespace Cert.KernelIdeal.Quant

open Cert.KernelIdeal Cert.KernelIdeal.Gen
open Idealize.ShloMosaic Idealize.ShloMosaic.TcCoe Idealize.ShloMosaic.ValueIdx
open Cert.Code Cert.Spec
open Cert.KernelIdeal.Chunk (row16)

/-! ## One grid point's blocks -/

variable (x0 : Vec Ideal S1x1 .f32) (x1 : Vec Ideal S1x512x1792 .bf16)

/-- The global scale the point reads. -/
def sB : EReal := x0 (ix2 (0 : Fin 1) (0 : Fin 1))
/-- The block scale at block row `k`, column `c` of the point's block. -/
def qB (k : Fin 32) (c : Fin 1792) : EReal := bscale (sB x0) (bmax fun r => x1 (ix3 (0 : Fin 1) (row16 k r) c))
/-- The scaled and clipped element at row `i`, column `c` of the point's block. -/
def vB (i : Fin 512) (c : Fin 1792) : EReal := val (sB x0) (qB x0 x1 ⟨i.val / 16, by omega⟩ c) (x1 (ix3 (0 : Fin 1) i c))
/-- The packed byte at column `c`, byte row `j` of the point's block. -/
def pB (c : Fin 1792) (j : Fin 256) : BitVec 8 :=
  byte (codeE (vB x0 x1 ⟨2 * j.val, by omega⟩ c)) (codeE (vB x0 x1 ⟨2 * j.val + 1, by omega⟩ c))

/-- The point's two output blocks. -/
def GP : S1x1792x256.Idx → Elt Ideal .i8 := fun y => pB x0 x1 (y 1) (y 2)
def GB : S1x32x1792.Idx → Elt Ideal .fp8e4m3 := fun y => qB x0 x1 (y 1) (y 2)

/-- The columns of a chunk, in the point's block. -/
def IsSlab (o : ℕ) (ho : o + 128 ≤ 1792) (X : Chunk.Chunk) : Prop :=
  ∀ (i : Fin 512) (c : Fin 128), X (ix3 (0 : Fin 1) i c) = x1 (ix3 (0 : Fin 1) i (⟨o + c.val, by omega⟩ : Fin 1792))

theorem chunk_q (o : ℕ) (ho : o + 128 ≤ 1792) (X : Chunk.Chunk) (hX : IsSlab x1 o ho X) (k : Fin 32) (c : Fin 128) :
    Chunk.q (sB x0) X k c = qB x0 x1 k ⟨o + c.val, by omega⟩ := by
  unfold Chunk.q qB
  simp only [hX _ c]

theorem chunk_v (o : ℕ) (ho : o + 128 ≤ 1792) (X : Chunk.Chunk) (hX : IsSlab x1 o ho X) (i : Fin 512) (c : Fin 128) :
    Chunk.v (sB x0) X i c = vB x0 x1 i ⟨o + c.val, by omega⟩ := by
  unfold Chunk.v vB
  rw [chunk_q x0 x1 o ho X hX, hX i c]

theorem piece_P (o : ℕ) (ho : o + 128 ≤ 1792) (s : Ideal .f32) (X : Chunk.Chunk) (hs : s = sB x0) (hX : IsSlab x1 o ho X) (y : S1x128x256.Idx)
    (inb : ∀ a, (![0, o, 0] : Fin 3 → ℕ) a + (![1, 128, 256] : Fin 3 → ℕ) a ≤ S1x1792x256.size a) :
    Chunk.packed s X y = GP x0 x1 ((Rect.unit (s := S1x1792x256) ![0, o, 0] ![1, 128, 256] inb).emb y) := by
  subst hs
  obtain ⟨u, c, j, rfl⟩ : ∃ (u : Fin 1) (c : Fin 128) (j : Fin 256), y = ix3 u c j := ⟨y 0, y 1, y 2, eq_ix3 y⟩
  rw [Chunk.packed_apply, chunk_v x0 x1 o ho X hX, chunk_v x0 x1 o ho X hX]
  unfold GP
  rw [show (Rect.unit (s := S1x1792x256) ![0, o, 0] ![1, 128, 256] inb).emb (ix3 u c j) 1 = (⟨o + c.val, by omega⟩ : Fin 1792) from
      Fin.ext (by show o + 1 * c.val = o + c.val; omega),
    show (Rect.unit (s := S1x1792x256) ![0, o, 0] ![1, 128, 256] inb).emb (ix3 u c j) 2 = j from Fin.ext (by show 0 + 1 * j.val = j.val; omega)]
  rfl

theorem piece_B (o : ℕ) (ho : o + 128 ≤ 1792) (s : Ideal .f32) (X : Chunk.Chunk) (hs : s = sB x0) (hX : IsSlab x1 o ho X) (y : S1x32x128.Idx)
    (inb : ∀ a, (![0, 0, o] : Fin 3 → ℕ) a + (![1, 32, 128] : Fin 3 → ℕ) a ≤ S1x32x1792.size a) :
    k1_pay4 s X y = GB x0 x1 ((Rect.unit (s := S1x32x1792) ![0, 0, o] ![1, 32, 128] inb).emb y) := by
  subst hs
  obtain ⟨u, k, c, rfl⟩ : ∃ (u : Fin 1) (k : Fin 32) (c : Fin 128), y = ix3 u k c := ⟨y 0, y 1, y 2, eq_ix3 y⟩
  rw [Chunk.pay4_apply, chunk_q x0 x1 o ho X hX]
  unfold GB
  rw [show (Rect.unit (s := S1x32x1792) ![0, 0, o] ![1, 32, 128] inb).emb (ix3 u k c) 2 = (⟨o + c.val, by omega⟩ : Fin 1792) from
      Fin.ext (by show o + 1 * c.val = o + c.val; omega),
    show (Rect.unit (s := S1x32x1792) ![0, 0, o] ![1, 32, 128] inb).emb (ix3 u k c) 1 = k from Fin.ext (by show 0 + 1 * k.val = k.val; omega)]

theorem s_eq (c : Dev nD) (arg2 : Memref sig .tc .smem S1x1 .f32) (harg2 : arg2.IsWhole) : kernelRun1_A.sl.r c arg2 harg2 x0 = sB x0 :=
  (harg2.readAt_unread x0 _ _).trans (congrArg x0 (funext fun a => Fin.ext (by
    match a with
    | ⟨0, _⟩ => rfl
    | ⟨1, _⟩ => rfl)))

theorem slab_eq (arg3 : Memref sig .tc .vmem S1x512x1792 .bf16) (harg3 : arg3.IsWhole) (o : ℕ)
    (inb : ∀ a, (![0, 0, o] : Fin 3 → ℕ) a + (![1, 512, 128] : Fin 3 → ℕ) a ≤ S1x512x1792.size a) (ho : o + 128 ≤ 1792) :
    IsSlab x1 o ho (View.readAt (Elt Ideal) arg3.view (Rect.unit (s := S1x512x1792) ![0, 0, o] ![1, 512, 128] inb).toLoadRect (harg3.unread x1)) := fun i c =>
  (harg3.readAt_unread x1 _ _).trans (congrArg x1 (funext fun a => Fin.ext (by
    match a with
    | ⟨0, _⟩ => rfl
    | ⟨1, _⟩ => show 0 + 1 * i.val = i.val; omega
    | ⟨2, _⟩ => show o + 1 * c.val = o + c.val; omega)))

set_option maxHeartbeats 400000 in
theorem pieces_P (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole) :
    ∀ p ∈ (kernelRun1_A c i arg2 harg2 arg3 harg3 arg4 harg4 arg5 harg5 x0 x1).1, ∀ y : p.1.shape.Idx, p.2 y = GP x0 x1 (p.1.emb y) := by
  unfold kernelRun1_A
  dsimp only
  simp only [List.forall_mem_cons, List.not_mem_nil, false_imp_iff, implies_true, and_true]
  refine ⟨?_, ?_, ?_, ?_, ?_, ?_, ?_, ?_, ?_, ?_, ?_, ?_, ?_, ?_⟩
  · exact fun y => piece_P x0 x1 1664 (by decide) _ _ (s_eq x0 c arg2 harg2) (slab_eq x1 arg3 harg3 1664 inb_S1x512x1792_S1x512x128_0_0_1664 (by decide)) y inb_S1x1792x256_S1x128x256_0_1664_0
  · exact fun y => piece_P x0 x1 1536 (by decide) _ _ (s_eq x0 c arg2 harg2) (slab_eq x1 arg3 harg3 1536 inb_S1x512x1792_S1x512x128_0_0_1536 (by decide)) y inb_S1x1792x256_S1x128x256_0_1536_0
  · exact fun y => piece_P x0 x1 1408 (by decide) _ _ (s_eq x0 c arg2 harg2) (slab_eq x1 arg3 harg3 1408 inb_S1x512x1792_S1x512x128_0_0_1408 (by decide)) y inb_S1x1792x256_S1x128x256_0_1408_0
  · exact fun y => piece_P x0 x1 1280 (by decide) _ _ (s_eq x0 c arg2 harg2) (slab_eq x1 arg3 harg3 1280 inb_S1x512x1792_S1x512x128_0_0_1280 (by decide)) y inb_S1x1792x256_S1x128x256_0_1280_0
  · exact fun y => piece_P x0 x1 1152 (by decide) _ _ (s_eq x0 c arg2 harg2) (slab_eq x1 arg3 harg3 1152 inb_S1x512x1792_S1x512x128_0_0_1152 (by decide)) y inb_S1x1792x256_S1x128x256_0_1152_0
  · exact fun y => piece_P x0 x1 1024 (by decide) _ _ (s_eq x0 c arg2 harg2) (slab_eq x1 arg3 harg3 1024 inb_S1x512x1792_S1x512x128_0_0_1024 (by decide)) y inb_S1x1792x256_S1x128x256_0_1024_0
  · exact fun y => piece_P x0 x1 896 (by decide) _ _ (s_eq x0 c arg2 harg2) (slab_eq x1 arg3 harg3 896 inb_S1x512x1792_S1x512x128_0_0_896 (by decide)) y inb_S1x1792x256_S1x128x256_0_896_0
  · exact fun y => piece_P x0 x1 768 (by decide) _ _ (s_eq x0 c arg2 harg2) (slab_eq x1 arg3 harg3 768 inb_S1x512x1792_S1x512x128_0_0_768 (by decide)) y inb_S1x1792x256_S1x128x256_0_768_0
  · exact fun y => piece_P x0 x1 640 (by decide) _ _ (s_eq x0 c arg2 harg2) (slab_eq x1 arg3 harg3 640 inb_S1x512x1792_S1x512x128_0_0_640 (by decide)) y inb_S1x1792x256_S1x128x256_0_640_0
  · exact fun y => piece_P x0 x1 512 (by decide) _ _ (s_eq x0 c arg2 harg2) (slab_eq x1 arg3 harg3 512 inb_S1x512x1792_S1x512x128_0_0_512 (by decide)) y inb_S1x1792x256_S1x128x256_0_512_0
  · exact fun y => piece_P x0 x1 384 (by decide) _ _ (s_eq x0 c arg2 harg2) (slab_eq x1 arg3 harg3 384 inb_S1x512x1792_S1x512x128_0_0_384 (by decide)) y inb_S1x1792x256_S1x128x256_0_384_0
  · exact fun y => piece_P x0 x1 256 (by decide) _ _ (s_eq x0 c arg2 harg2) (slab_eq x1 arg3 harg3 256 inb_S1x512x1792_S1x512x128_0_0_256 (by decide)) y inb_S1x1792x256_S1x128x256_0_256_0
  · exact fun y => piece_P x0 x1 128 (by decide) _ _ (s_eq x0 c arg2 harg2) (slab_eq x1 arg3 harg3 128 inb_S1x512x1792_S1x512x128_0_0_128 (by decide)) y inb_S1x1792x256_S1x128x256_0_128_0
  · exact fun y => piece_P x0 x1 0 (by decide) _ _ (s_eq x0 c arg2 harg2) (slab_eq x1 arg3 harg3 0 inb_S1x512x1792_S1x512x128_0_0_0 (by decide)) y inb_S1x1792x256_S1x128x256_0_0_0

set_option maxHeartbeats 400000 in
theorem pieces_B (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole) :
    ∀ p ∈ (kernelRun1_A c i arg2 harg2 arg3 harg3 arg4 harg4 arg5 harg5 x0 x1).2.1, ∀ y : p.1.shape.Idx, p.2 y = GB x0 x1 (p.1.emb y) := by
  unfold kernelRun1_A
  dsimp only
  simp only [List.forall_mem_cons, List.not_mem_nil, false_imp_iff, implies_true, and_true]
  refine ⟨?_, ?_, ?_, ?_, ?_, ?_, ?_, ?_, ?_, ?_, ?_, ?_, ?_, ?_⟩
  · exact fun y => piece_B x0 x1 1664 (by decide) _ _ (s_eq x0 c arg2 harg2) (slab_eq x1 arg3 harg3 1664 inb_S1x512x1792_S1x512x128_0_0_1664 (by decide)) y inb_S1x32x1792_S1x32x128_0_0_1664
  · exact fun y => piece_B x0 x1 1536 (by decide) _ _ (s_eq x0 c arg2 harg2) (slab_eq x1 arg3 harg3 1536 inb_S1x512x1792_S1x512x128_0_0_1536 (by decide)) y inb_S1x32x1792_S1x32x128_0_0_1536
  · exact fun y => piece_B x0 x1 1408 (by decide) _ _ (s_eq x0 c arg2 harg2) (slab_eq x1 arg3 harg3 1408 inb_S1x512x1792_S1x512x128_0_0_1408 (by decide)) y inb_S1x32x1792_S1x32x128_0_0_1408
  · exact fun y => piece_B x0 x1 1280 (by decide) _ _ (s_eq x0 c arg2 harg2) (slab_eq x1 arg3 harg3 1280 inb_S1x512x1792_S1x512x128_0_0_1280 (by decide)) y inb_S1x32x1792_S1x32x128_0_0_1280
  · exact fun y => piece_B x0 x1 1152 (by decide) _ _ (s_eq x0 c arg2 harg2) (slab_eq x1 arg3 harg3 1152 inb_S1x512x1792_S1x512x128_0_0_1152 (by decide)) y inb_S1x32x1792_S1x32x128_0_0_1152
  · exact fun y => piece_B x0 x1 1024 (by decide) _ _ (s_eq x0 c arg2 harg2) (slab_eq x1 arg3 harg3 1024 inb_S1x512x1792_S1x512x128_0_0_1024 (by decide)) y inb_S1x32x1792_S1x32x128_0_0_1024
  · exact fun y => piece_B x0 x1 896 (by decide) _ _ (s_eq x0 c arg2 harg2) (slab_eq x1 arg3 harg3 896 inb_S1x512x1792_S1x512x128_0_0_896 (by decide)) y inb_S1x32x1792_S1x32x128_0_0_896
  · exact fun y => piece_B x0 x1 768 (by decide) _ _ (s_eq x0 c arg2 harg2) (slab_eq x1 arg3 harg3 768 inb_S1x512x1792_S1x512x128_0_0_768 (by decide)) y inb_S1x32x1792_S1x32x128_0_0_768
  · exact fun y => piece_B x0 x1 640 (by decide) _ _ (s_eq x0 c arg2 harg2) (slab_eq x1 arg3 harg3 640 inb_S1x512x1792_S1x512x128_0_0_640 (by decide)) y inb_S1x32x1792_S1x32x128_0_0_640
  · exact fun y => piece_B x0 x1 512 (by decide) _ _ (s_eq x0 c arg2 harg2) (slab_eq x1 arg3 harg3 512 inb_S1x512x1792_S1x512x128_0_0_512 (by decide)) y inb_S1x32x1792_S1x32x128_0_0_512
  · exact fun y => piece_B x0 x1 384 (by decide) _ _ (s_eq x0 c arg2 harg2) (slab_eq x1 arg3 harg3 384 inb_S1x512x1792_S1x512x128_0_0_384 (by decide)) y inb_S1x32x1792_S1x32x128_0_0_384
  · exact fun y => piece_B x0 x1 256 (by decide) _ _ (s_eq x0 c arg2 harg2) (slab_eq x1 arg3 harg3 256 inb_S1x512x1792_S1x512x128_0_0_256 (by decide)) y inb_S1x32x1792_S1x32x128_0_0_256
  · exact fun y => piece_B x0 x1 128 (by decide) _ _ (s_eq x0 c arg2 harg2) (slab_eq x1 arg3 harg3 128 inb_S1x512x1792_S1x512x128_0_0_128 (by decide)) y inb_S1x32x1792_S1x32x128_0_0_128
  · exact fun y => piece_B x0 x1 0 (by decide) _ _ (s_eq x0 c arg2 harg2) (slab_eq x1 arg3 harg3 0 inb_S1x512x1792_S1x512x128_0_0_0 (by decide)) y inb_S1x32x1792_S1x32x128_0_0_0

theorem out_P (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole) : out1_A_2 c i arg2 harg2 arg3 harg3 arg4 harg4 arg5 harg5 x0 x1 = GP x0 x1 := funext fun y =>
  View.read_writes_apply_of_pieces _ _ (GP x0 x1) _ (pieces_P x0 x1 c i arg2 harg2 arg3 harg3 arg4 harg4 arg5 harg5) y (cover1_A_2 c i arg2 harg2 arg3 harg3 arg4 harg4 arg5 harg5 x0 x1 y)

theorem out_B (c : Dev nD) (i : grid1.Coords) (arg2 : Memref sig .tc .smem S1x1 .f32) (harg2 : arg2.IsWhole) (arg3 : Memref sig .tc .vmem S1x512x1792 .bf16) (harg3 : arg3.IsWhole) (arg4 : Memref sig .tc .vmem S1x1792x256 .i8) (harg4 : arg4.IsWhole) (arg5 : Memref sig .tc .vmem S1x32x1792 .fp8e4m3) (harg5 : arg5.IsWhole) : out1_A_3 c i arg2 harg2 arg3 harg3 arg4 harg4 arg5 harg5 x0 x1 = GB x0 x1 := funext fun y =>
  View.read_writes_apply_of_pieces _ _ (GB x0 x1) _ (pieces_B x0 x1 c i arg2 harg2 arg3 harg3 arg4 harg4 arg5 harg5) y (cover1_A_3 c i arg2 harg2 arg3 harg3 arg4 harg4 arg5 harg5 x0 x1 y)

/-! ## The whole arrays -/

theorem index1 : ∀ t : Fin cfg1.N, win1_1.index t = ![t.val / 2, t.val % 2, 0] :=
  (by decide +kernel : ∀ t : Fin grid1.N, win1_1.index t = ![t.val / 2, t.val % 2, 0])
theorem index2 : ∀ t : Fin cfg1.N, win1_2.index t = ![t.val / 2, 0, t.val % 2] :=
  (by decide +kernel : ∀ t : Fin grid1.N, win1_2.index t = ![t.val / 2, 0, t.val % 2])
theorem index3 : ∀ t : Fin cfg1.N, win1_3.index t = ![t.val / 2, t.val % 2, 0] :=
  (by decide +kernel : ∀ t : Fin grid1.N, win1_3.index t = ![t.val / 2, t.val % 2, 0])
theorem flush2 : ∀ t : Fin cfg1.N, (cfg1.win 2).flush t = true :=
  (by decide +kernel : ∀ t : Fin grid1.N, win1_2.flush t = true)
theorem flush3 : ∀ t : Fin cfg1.N, (cfg1.win 3).flush t = true :=
  (by decide +kernel : ∀ t : Fin grid1.N, win1_3.flush t = true)

variable (W : Dev nD → Valuation τ sig (Elt Ideal)) (c : Dev nD)

/-- The tensor and the global scale the call finds. -/
abbrev XA : Tensor := V W c (Pipeline.arrRef spec1 1)
abbrev SA : EReal := V W c (Pipeline.arrRef spec1 0) (ix2 (0 : Fin 1) (0 : Fin 1))

/-- The grid point of batch `b`, half `h`. -/
abbrev pt (b : Fin 48) (h : Fin 2) : Fin cfg1.N := ⟨2 * b.val + h.val, by rw [show cfg1.N = 96 from N_1]; omega⟩

theorem pt_div (b : Fin 48) (h : Fin 2) : (pt b h).val / 2 = b.val := by show (2 * b.val + h.val) / 2 = b.val; omega
theorem pt_mod (b : Fin 48) (h : Fin 2) : (pt b h).val % 2 = h.val := by show (2 * b.val + h.val) % 2 = h.val; omega

theorem iblk0 (b : Fin 48) (h : Fin 2) : sB (iblk W c 0 (pt b h)) = SA W c := by
  unfold sB iblk
  exact congrArg (V W c (Pipeline.arrRef spec1 0)) (funext fun a => Fin.ext (by
    match a with
    | ⟨0, _⟩ => rfl
    | ⟨1, _⟩ => rfl))

theorem iblk1 (b : Fin 48) (h : Fin 2) (i : Fin 512) (col : Fin 1792) :
    iblk W c 1 (pt b h) (ix3 (0 : Fin 1) i col) = XA W c (ix3 b (⟨512 * h.val + i.val, by omega⟩ : Fin 1024) col) := by
  unfold iblk
  refine congrArg (V W c (Pipeline.arrRef spec1 1)) (funext fun a => Fin.ext ?_)
  refine (win1_1.rect_emb_val (pt b h) _ a).trans ?_
  rw [index1, pt_div, pt_mod]
  match a with
  | ⟨0, _⟩ => show b.val * 1 + 0 = b.val; omega
  | ⟨1, _⟩ => show h.val * 512 + i.val = 512 * h.val + i.val; omega
  | ⟨2, _⟩ => show 0 * 1792 + col.val = col.val; omega

theorem qB_eq (b : Fin 48) (h : Fin 2) (k : Fin 32) (col : Fin 1792) :
    qB (iblk W c 0 (pt b h)) (iblk W c 1 (pt b h)) k col = scaleAt (SA W c) (XA W c) b ⟨32 * h.val + k.val, by omega⟩ col := by
  unfold qB scaleAt
  simp only [iblk0 W c b h, iblk1 W c b h]
  congr 2
  funext r
  exact congrArg (fun i => XA W c (ix3 b i col)) (Fin.ext (by show 512 * h.val + (16 * k.val + r.val) = 16 * (32 * h.val + k.val) + r.val; omega))

theorem vB_eq (b : Fin 48) (h : Fin 2) (i : Fin 512) (col : Fin 1792) :
    vB (iblk W c 0 (pt b h)) (iblk W c 1 (pt b h)) i col = valAt (SA W c) (XA W c) b ⟨512 * h.val + i.val, by omega⟩ col := by
  unfold vB valAt
  rw [qB_eq, iblk0, iblk1]
  congr 2
  exact Fin.ext (by show 32 * h.val + i.val / 16 = (512 * h.val + i.val) / 16; omega)

/-- The packed codes after the call. -/
theorem packed_at (b : Fin 48) (col : Fin 1792) (j : Fin 512) :
    (dat W c).arrAt 2 cfg1.N (ix3 b col j) = byteAt (SA W c) (XA W c) b col j := by
  obtain ⟨h, k, rfl⟩ : ∃ (h : Fin 2) (k : Fin 256), j = ⟨256 * h.val + k.val, by omega⟩ :=
    ⟨⟨j.val / 256, by omega⟩, ⟨j.val % 256, by omega⟩, Fin.ext (by show j.val = 256 * (j.val / 256) + j.val % 256; omega)⟩
  have hemb : ((cfg1.win 2).blk (pt b h)).view.emb (ix3 (0 : Fin 1) col k) = ix3 b col (⟨256 * h.val + k.val, by omega⟩ : Fin 512) := by
    refine funext fun a => Fin.ext ?_
    refine (win1_2.rect_emb_val (pt b h) _ a).trans ?_
    rw [index2, pt_div, pt_mod]
    match a with
    | ⟨0, _⟩ => show b.val * 1 + 0 = b.val; omega
    | ⟨1, _⟩ => show 0 * 1792 + col.val = col.val; omega
    | ⟨2, _⟩ => show h.val * 256 + k.val = 256 * h.val + k.val; omega
  have hval := (dat W c).arrAt_emb_eq_flushed 2 disjoint2 (pt b h) (flush2 _) (ix3 (0 : Fin 1) col k)
  rw [hemb] at hval
  refine hval.trans ?_
  rw [flushed2_A, out_P]
  show pB (iblk W c 0 (pt b h)) (iblk W c 1 (pt b h)) col k = _
  unfold pB byteAt
  rw [vB_eq, vB_eq]
  have e1 : (⟨512 * h.val + 2 * k.val, by omega⟩ : Fin 1024) = ⟨2 * (256 * h.val + k.val), by omega⟩ := Fin.ext (by show 512 * h.val + 2 * k.val = 2 * (256 * h.val + k.val); omega)
  have e2 : (⟨512 * h.val + (2 * k.val + 1), by omega⟩ : Fin 1024) = ⟨2 * (256 * h.val + k.val) + 1, by omega⟩ := Fin.ext (by show 512 * h.val + (2 * k.val + 1) = 2 * (256 * h.val + k.val) + 1; omega)
  rw [e1, e2]

/-- The block scales after the call. -/
theorem scale_at (b : Fin 48) (k : Fin 64) (col : Fin 1792) :
    (dat W c).arrAt 3 cfg1.N (ix3 b k col) = scaleAt (SA W c) (XA W c) b k col := by
  obtain ⟨h, k, rfl⟩ : ∃ (h : Fin 2) (k' : Fin 32), k = ⟨32 * h.val + k'.val, by omega⟩ :=
    ⟨⟨k.val / 32, by omega⟩, ⟨k.val % 32, by omega⟩, Fin.ext (by show k.val = 32 * (k.val / 32) + k.val % 32; omega)⟩
  have hemb : ((cfg1.win 3).blk (pt b h)).view.emb (ix3 (0 : Fin 1) k col) = ix3 b (⟨32 * h.val + k.val, by omega⟩ : Fin 64) col := by
    refine funext fun a => Fin.ext ?_
    refine (win1_3.rect_emb_val (pt b h) _ a).trans ?_
    rw [index3, pt_div, pt_mod]
    match a with
    | ⟨0, _⟩ => show b.val * 1 + 0 = b.val; omega
    | ⟨1, _⟩ => show h.val * 32 + k.val = 32 * h.val + k.val; omega
    | ⟨2, _⟩ => show 0 * 1792 + col.val = col.val; omega
  have hval := (dat W c).arrAt_emb_eq_flushed 3 disjoint3 (pt b h) (flush3 _) (ix3 (0 : Fin 1) k col)
  rw [hemb] at hval
  refine hval.trans ?_
  rw [flushed3_A, out_B]
  show qB (iblk W c 0 (pt b h)) (iblk W c 1 (pt b h)) k col = _
  exact qB_eq W c b h k col

end Cert.KernelIdeal.Quant

end
-- ==== Proof.IResults.lean ====
/-
  The kernel's run: every execution ends with the three results at the quantisation's values by coordinates.
-/
module

public import proofs.«01_k».proof.Proof.IRun
public import proofs.«01_k».proof.Proof.IAmaxValue
public import proofs.«01_k».proof.Proof.IQuantValue
public import Idealize.ShloMosaic.Lib.ValueLayout

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.ShloMosaic.Pipeline (Dat afterRegion)
open Cert.Code Cert.Spec

variable (m : (ℓ : Loc nD τ sig) → Buf (Elt Ideal) ℓ) (c : Dev nD)

/-- The tensor. -/
abbrev XT : Tensor := m ((c.tc : Thread nD τ).loc main_arg0)

theorem W1_arg0 : W1 m c (Proc.devRef .tc main_arg0) = m ((c.tc : Thread nD τ).loc main_arg0) := by
  unfold W1
  exact Pipeline.afterRegion_keeps (Amax.dat (W0 m) c) (W0 m c) launch0.win.arr_inj (fun w => Amax.A_eq (W0 m) c w) main_arg0 (by decide)

theorem W1_v0 : W1 m c (Proc.devRef .tc main_v0) = (Amax.dat (W0 m) c).arrAt 1 cfg0.N := by
  unfold W1
  exact Pipeline.afterRegion_arr (Amax.dat (W0 m) c) _ launch0.win.arr_inj 1

theorem sg_W1 : W1 m c (Proc.devRef .tc main_v0) (ix2 (0 : Fin 1) (0 : Fin 1)) = gscale (amax (XT m c)) :=
  (congrFun (W1_v0 m c) _).trans (Amax.sg_at (W0 m) c)

theorem SA_eq : Quant.SA (W1 m) c = gscale (amax (XT m c)) := sg_W1 m c
theorem XA_eq : Quant.XA (W1 m) c = XT m c := W1_arg0 m c

/-- The packed codes. -/
theorem packed : W3 m c (Proc.devRef .tc main_v1_0) = packedA (gscale (amax (XT m c))) (XT m c) := by
  have h3 : W3 m c (Proc.devRef .tc main_v1_0) = W2 m c (Proc.devRef .tc main_v1_0) := by
    unfold W3 hostOps2; after_results
  have h2 : W2 m c (Proc.devRef .tc main_v1_0) = (Quant.dat (W1 m) c).arrAt 2 cfg1.N := by
    unfold W2
    exact Pipeline.afterRegion_arr (Quant.dat (W1 m) c) _ launch1.win.arr_inj 2
  rw [h3, h2]
  funext j
  obtain ⟨b, col, i, rfl⟩ : ∃ (b : Fin 48) (col : Fin 1792) (i : Fin 512), j = ix3 b col i := ⟨j 0, j 1, j 2, eq_ix3 j⟩
  refine (Quant.packed_at (W1 m) c b col i).trans ?_
  rw [SA_eq, XA_eq, packedA_apply]

/-- The block scales. -/
theorem scales : W3 m c (Proc.devRef .tc main_v2) = scaleA (gscale (amax (XT m c))) (XT m c) := by
  have h3 : W3 m c (Proc.devRef .tc main_v2) = transpose S48x1792x64 [0, 2, 1] (W2 m c (Proc.devRef .tc main_v1_1)) transposes_S48x64x1792_S48x1792x64_0_2_1 := by
    unfold W3 hostOps2; after_results
  have h2 : W2 m c (Proc.devRef .tc main_v1_1) = (Quant.dat (W1 m) c).arrAt 3 cfg1.N := by
    unfold W2
    exact Pipeline.afterRegion_arr (Quant.dat (W1 m) c) _ launch1.win.arr_inj 3
  rw [h3, h2]
  funext j
  obtain ⟨b, col, k, rfl⟩ : ∃ (b : Fin 48) (col : Fin 1792) (k : Fin 64), j = ix3 b col k := ⟨j 0, j 1, j 2, eq_ix3 j⟩
  refine (transpose_ix3_021_apply _ transposes_S48x64x1792_S48x1792x64_0_2_1 b col k).trans ?_
  refine (Quant.scale_at (W1 m) c b k col).trans ?_
  rw [SA_eq, XA_eq, scaleA_apply]

/-- The global scale. -/
theorem global : W3 m c (Proc.devRef .tc main_v3) = fun _ => gscale (amax (XT m c)) := by
  have h3 : W3 m c (Proc.devRef .tc main_v3) = shapeCast S_ (W2 m c (Proc.devRef .tc main_v0)) shapeCasts_S1x1_S_ := by
    unfold W3 hostOps2
    after_results
    rfl
  have h2 : W2 m c (Proc.devRef .tc main_v0) = W1 m c (Proc.devRef .tc main_v0) := by
    unfold W2
    exact Pipeline.afterRegion_keeps (Quant.dat (W1 m) c) (W1 m c) launch1.win.arr_inj (fun w => Quant.A_eq (W1 m) c w) main_v0 (by decide)
  rw [h3, h2]
  funext j
  refine (shapeCast_apply _ shapeCasts_S1x1_S_ j (ix2 (0 : Fin 1) (0 : Fin 1)) ?_).trans (sg_W1 m c)
  have h1 := (S1x1.rowMajor (ix2 (0 : Fin 1) (0 : Fin 1))).isLt
  have h2 := (S_.rowMajor j).isLt
  have e1 : S1x1.numel = 1 := rfl
  have e2 : S_.numel = 1 := rfl
  omega

end Cert.KernelIdeal.Run

end
-- ==== Proof.RefValue.lean ====
/-
  The reference's lines read at an index: the global scale, the block scales and the packed codes.
-/
module

public import proofs.«01_k».proof.Proof.Gen.ReferenceIdeal.Skeleton
public import proofs.«01_k».proof.Proof.Spec
public import Idealize.ShloMosaic.PureOps.Ideal.Laws
public import Idealize.ShloMosaic.Lib.ValueLayout

@[expose] public section

set_option maxRecDepth 16384

noncomputable section

namespace Cert.ReferenceIdeal.Value

open Cert.ReferenceIdeal Cert.ReferenceIdeal.Gen
open Idealize.ShloMosaic Idealize.ShloMosaic.ValueIdx
open Cert.Code Cert.Spec

variable (X : Vec Ideal S48x1024x1792 .bf16)

/-! ## The global scale -/

/-- The absolute values with a leading axis. -/
def absX : FVec Ideal S1x48x1024x1792 .f32 :=
  shapeCast S1x48x1024x1792 (extf (F := Ideal) .f32 (absf (F := Ideal) (φ := .bf16) X) bitsLt_bf16_f32) shapeCasts_S48x1024x1792_S1x48x1024x1792

theorem absX_apply (u : Fin 1) (b : Fin 48) (i : Fin 1024) (c : Fin 1792) : absX X (ix4 u b i c) = absE (X (ix3 b i c)) := by
  unfold absX
  rw [shapeCast_abc_1abc_apply]
  rfl

/-- The greatest of them. -/
def gmax : EReal :=
  extractAt ![0, 0, 0, 0] (shapeCast S1x1x1x1 (multiReduction (F := Ideal) .maximumf [1, 2, 3] S1 (absX X)
    0xFF800000#32 reduces_S1x48x1024x1792_S1 (.inl rfl) rfl) shapeCasts_S1_S1x1x1x1) inpos_S1x1x1x1_p0_0_0_0

theorem gmax_eq : gmax X = amax X := by
  have h : gmax X = (Finset.univ : Finset S1x48x1024x1792.Idx).fold max (⊥ : EReal) (fun i => (absX X i : EReal)) := by
    unfold gmax
    show shapeCast S1x1x1x1 _ shapeCasts_S1_S1x1x1x1 (ix4 (0 : Fin 1) (0 : Fin 1) (0 : Fin 1) (0 : Fin 1)) = _
    rw [shapeCast_apply _ shapeCasts_S1_S1x1x1x1 (ix4 (0 : Fin 1) (0 : Fin 1) (0 : Fin 1) (0 : Fin 1)) (ix1 (0 : Fin 1)) rfl]
    refine (multiReduction_maximumf_eq_fold _ _ _ _ _ _).trans ?_
    rw [Finset.filter_true_of_mem fun i _ => funext fun a => Fin.ext (by
      match a with
      | ⟨0, _⟩ =>
        have h1 := (Shape.Reduces.drop reduces_S1x48x1024x1792_S1 i ⟨0, by decide⟩).isLt
        have h2 : S1.size ⟨0, by decide⟩ = 1 := rfl
        exact Nat.lt_one_iff.mp (lt_of_lt_of_eq h1 h2))]
    rw [← c_bot]
    rfl
  refine eq_of_forall_ge_iff fun z => ?_
  rw [h, fold_le]
  unfold amax
  rw [fold_le]
  refine and_congr_right fun _ => ⟨fun hz i _ => ?_, fun hz i _ => ?_⟩
  · obtain ⟨b, r, c, rfl⟩ : ∃ (b : Fin 48) (r : Fin 1024) (c : Fin 1792), i = ix3 b r c := ⟨i 0, i 1, i 2, eq_ix3 i⟩
    have := hz (ix4 (0 : Fin 1) b r c) (Finset.mem_univ _)
    rw [absX_apply] at this
    exact this
  · obtain ⟨u, b, r, c, rfl⟩ : ∃ (u : Fin 1) (b : Fin 48) (r : Fin 1024) (c : Fin 1792), i = ix4 u b r c := ⟨i 0, i 1, i 2, i 3, eq_ix4 i⟩
    rw [absX_apply]
    exact hz (ix3 b r c) (Finset.mem_univ _)

/-- The reference's global scale. -/
theorem pay1_eq : k0_pay1 X = gscale (amax X) := by
  have h : k0_pay1 X = Scalar.select (Scalar.cmpf (F := Ideal) (φ := .f32) .ogt (gmax X) (Scalar.ofBits .f32 0x00000000#32))
      (Scalar.divf (F := Ideal) (φ := .f32) (gmax X) (Scalar.ofBits .f32 0x45280000#32)) (Scalar.ofBits .f32 0x3F800000#32) := by
    unfold k0_pay1; rfl
  rw [h, gmax_eq]
  generalize amax X = a
  refine (select_ogt a (Ideal.ofBits .f32 0x00000000#32) _ _).trans ?_
  rw [c_zero]
  unfold gscale
  rw [← c_one, ← Ideal.div_coe (by norm_num : (2688 : ℝ) ≠ 0) a, ← c_2688]
  rfl

/-! ## The block scales -/

theorem pay2_apply (b : Fin 48) (k : Fin 64) (r : Fin 16) (c : Fin 1792) : k0_pay2 X (ix4 b k r c) = X (ix3 b (row k r) c) := by
  unfold k0_pay2
  exact shapeCast_apply _ shapeCasts_S48x1024x1792_S48x64x16x1792 (ix4 b k r c) (ix3 b (row k r) c) (by
    rw [Shape.rowMajor_val_three, Shape.rowMajor_val_four]
    show (b.val * 1024 + (16 * k.val + r.val)) * 1792 + c.val = ((b.val * 64 + k.val) * 16 + r.val) * 1792 + c.val
    omega)

/-- The greatest absolute value of each block. -/
def bm : FVec Ideal S48x64x1792 .bf16 :=
  multiReduction .maximumf [2] S48x64x1792 (absf (F := Ideal) (φ := .bf16) (k0_pay2 X)) 0xFF80#16 reduces_S48x64x16x1792_S48x64x1792 (.inr rfl) rfl

theorem bm_apply (b : Fin 48) (k : Fin 64) (c : Fin 1792) : bm X (ix3 b k c) = bmax fun r => X (ix3 b (row k r) c) := by
  have e : ∀ r : Fin 16, (absf (F := Ideal) (φ := .bf16) (k0_pay2 X) ∘ Shape.Reduces.lift reduces_S48x64x16x1792_S48x64x1792 (ix3 b k c)) r = absE (X (ix3 b (row k r) c)) := fun r => by
    have hl : Shape.Reduces.lift reduces_S48x64x16x1792_S48x64x1792 (ix3 b k c) r = ix4 b k r c := by
      funext a; apply Fin.ext
      match a with
      | ⟨0, _⟩ => rfl
      | ⟨1, _⟩ => rfl
      | ⟨2, _⟩ => rfl
      | ⟨3, _⟩ => rfl
    show absf (F := Ideal) (φ := .bf16) (k0_pay2 X) (Shape.Reduces.lift reduces_S48x64x16x1792_S48x64x1792 (ix3 b k c) r) = _
    rw [hl]
    show absE (k0_pay2 X (ix4 b k r c)) = _
    rw [pay2_apply]
  refine (Ideal.multiReduction_maximumf_single _ _ _ _ _ _).trans ?_
  rw [show (absf (F := Ideal) (φ := .bf16) (k0_pay2 X) ∘ Shape.Reduces.lift reduces_S48x64x16x1792_S48x64x1792 (ix3 b k c)) = fun r : Fin 16 => absE (X (ix3 b (row k r) c)) from funext e]
  unfold bmax
  rw [← c_bot16]
  rfl

theorem quot_at (A : FVec Ideal S48x64x1792 .bf16) (s : Ideal .f32) (j : S48x64x1792.Idx) :
    truncf .fp8e4m3 (minimumf (divf (extf .f32 A bitsLt_bf16_f32) (broadcast S48x64x1792 (Scalar.mulf (Scalar.ofBits .f32 0x40C00000#32) s)))
      (broadcast S48x64x1792 (Scalar.ofBits .f32 0x43E00000#32))) bitsLt_fp8e4m3_f32 j
    = min (Ideal.div (A j) (Ideal.ofBits .f32 0x40C00000#32 * s)) (Ideal.ofBits .f32 0x43E00000#32) := rfl

/-- The reference's block scales. -/
theorem pay3_apply (b : Fin 48) (k : Fin 64) (c : Fin 1792) : k0_pay3 X (ix3 b k c) = scaleAt (gscale (amax X)) X b k c := by
  have h1 : k0_pay3 X = truncf .fp8e4m3 (minimumf (divf (extf .f32 (bm X) bitsLt_bf16_f32) (broadcast S48x64x1792 (Scalar.mulf (Scalar.ofBits .f32 0x40C00000#32) (k0_pay1 X))))
      (broadcast S48x64x1792 (Scalar.ofBits .f32 0x43E00000#32))) bitsLt_fp8e4m3_f32 := by
    unfold k0_pay3 bm; rfl
  rw [h1, quot_at, bm_apply, c_six, pay1_eq]
  unfold scaleAt bscale
  rfl

/-! ## The scaled and clipped elements -/

/-- The divisors. -/
def effX (q : FVec Ideal S48x64x1792 .fp8e4m3) (s : Ideal .f32) : FVec Ideal S48x64x1792 .f32 :=
  select (cmpf .oeq (mulf (extf .f32 q bitsLt_fp8e4m3_f32) (broadcast S48x64x1792 s)) (broadcast S48x64x1792 (Scalar.ofBits (F := Ideal) .f32 0x00000000#32)))
    (broadcast S48x64x1792 (Scalar.ofBits (F := Ideal) .f32 0x3F800000#32)) (mulf (extf .f32 q bitsLt_fp8e4m3_f32) (broadcast S48x64x1792 s))

theorem effX_apply (q : FVec Ideal S48x64x1792 .fp8e4m3) (s : Ideal .f32) (j : S48x64x1792.Idx) : effX q s j = eff s (q j) := by
  have h : effX q s j = Scalar.select (Ideal.cmp .oeq (q j * s) (Ideal.ofBits .f32 0x00000000#32)) (Ideal.ofBits .f32 0x3F800000#32) (q j * s) := rfl
  rw [h, select_oeq, c_one, c_zero]
  rfl

theorem pay4_apply (b : Fin 48) (k : Fin 64) (r : Fin 16) (c : Fin 1792) :
    k0_pay4 X (ix4 b k r c) = val (gscale (amax X)) (scaleAt (gscale (amax X)) X b k c) (X (ix3 b (row k r) c)) := by
  have h1 : k0_pay4 X = minimumf (broadcast S48x64x16x1792 (Scalar.ofBits (F := Ideal) .f32 0x40C00000#32)) (maximumf (broadcast S48x64x16x1792 (Scalar.ofBits (F := Ideal) .f32 0xC0C00000#32))
      (divf (extf .f32 (k0_pay2 X) bitsLt_bf16_f32) (broadcastTo S48x64x16x1792 (shapeCast S48x64x1x1792 (effX (k0_pay3 X) (k0_pay1 X)) shapeCasts_S48x64x1792_S48x64x1x1792) broadcasts_S48x64x1x1792_S48x64x16x1792))) := by
    unfold k0_pay4 effX; rfl
  rw [h1]
  have hE : effX (k0_pay3 X) (k0_pay1 X) (ix3 b k c) = eff (gscale (amax X)) (scaleAt (gscale (amax X)) X b k c) := by
    rw [effX_apply, pay3_apply, pay1_eq]
  have hP : k0_pay2 X (ix4 b k r c) = X (ix3 b (row k r) c) := pay2_apply X b k r c
  generalize effX (k0_pay3 X) (k0_pay1 X) = E at hE
  generalize k0_pay2 X = P at hP
  rw [show ∀ (A B C : FVec Ideal S48x64x16x1792 .f32) (j : S48x64x16x1792.Idx), minimumf A (maximumf B C) j = min (A j) (max (B j) (C j)) from fun _ _ _ _ => rfl,
    show ∀ (A B : FVec Ideal S48x64x16x1792 .f32) (j : S48x64x16x1792.Idx), divf A B j = Ideal.div (A j) (B j) from fun _ _ _ => rfl]
  rw [broadcastTo_apply _ broadcasts_S48x64x1x1792_S48x64x16x1792 (ix4 b k r c) (ix4 b k (0 : Fin 1) c) (fun a => match a with
    | ⟨0, _⟩ => rfl | ⟨1, _⟩ => rfl | ⟨2, _⟩ => rfl | ⟨3, _⟩ => rfl)]
  rw [shapeCast_apply _ shapeCasts_S48x64x1792_S48x64x1x1792 (ix4 b k (0 : Fin 1) c) (ix3 b k c) (by
    rw [Shape.rowMajor_val_three, Shape.rowMajor_val_four]
    show (b.val * 64 + k.val) * 1792 + c.val = ((b.val * 64 + k.val) * 1 + 0) * 1792 + c.val
    omega)]
  rw [hE, show ∀ (P : FVec Ideal S48x64x16x1792 .bf16) (j : S48x64x16x1792.Idx), extf .f32 P bitsLt_bf16_f32 j = P j from fun _ _ => rfl, hP]
  generalize scaleAt (gscale (amax X)) X b k c = q
  generalize gscale (amax X) = g
  generalize X (ix3 b (row k r) c) = x
  unfold val clip
  rw [← c_six, ← c_neg_six]
  rfl

/-! ## The codes -/

/-- The codes as the lines compute them from the scaled and clipped elements. -/
def mags (v35 : FVec Ideal S48x64x16x1792 .f32) (v42 : IVec S48x64x16x1792 32) (cst_14 : Ideal .f32) : IVec S48x64x16x1792 32 :=
  addi (addi (addi (addi (addi v42
    (extui 32 (cmpf .ogt v35 (broadcast S48x64x16x1792 cst_14)) natLt_1_32))
    (extui 32 (cmpf .oge v35 (broadcast S48x64x16x1792 (Scalar.ofBits (F := Ideal) .f32 0x3FE00000#32))) natLt_1_32))
    (extui 32 (cmpf .ogt v35 (broadcast S48x64x16x1792 (Scalar.ofBits (F := Ideal) .f32 0x40200000#32))) natLt_1_32))
    (extui 32 (cmpf .oge v35 (broadcast S48x64x16x1792 (Scalar.ofBits (F := Ideal) .f32 0x40600000#32))) natLt_1_32))
    (extui 32 (cmpf .ogt v35 (broadcast S48x64x16x1792 (Scalar.ofBits (F := Ideal) .f32 0x40A00000#32))) natLt_1_32)

/-- The codes, from the magnitudes and the signs. -/
def codes (v34 v35 : FVec Ideal S48x64x16x1792 .f32) (v42 : IVec S48x64x16x1792 32) (cst_14 : Ideal .f32) : IVec S48x64x16x1792 32 :=
  select (andi (cmpf .olt v34 (broadcast S48x64x16x1792 (Scalar.ofBits (F := Ideal) .f32 0x00000000#32))) (cmpi .sgt (mags v35 v42 cst_14) (broadcast S48x64x16x1792 0#32)))
    (ori (mags v35 v42 cst_14) (broadcast S48x64x16x1792 8#32)) (mags v35 v42 cst_14)

theorem addi_at (A B : IVec S48x64x16x1792 32) (j : S48x64x16x1792.Idx) : addi A B j = A j + B j := rfl

theorem ext_at (p : CmpFPredicate) (A : FVec Ideal S48x64x16x1792 .f32) (w : BitVec 32) (j : S48x64x16x1792.Idx) :
    extui 32 (cmpf p A (broadcast S48x64x16x1792 (Scalar.ofBits (F := Ideal) .f32 w))) natLt_1_32 j = (Ideal.cmp p (A j) (Ideal.ofBits .f32 w)).setWidth 32 := rfl

theorem mags_apply (j : S48x64x16x1792.Idx) :
    mags (k0_pay5 X) (k0_pay6 X) (Scalar.ofBits (F := Ideal) .f32 0x3FA00000#32) j = refMag (k0_pay5 X j) := by
  have h6 : k0_pay6 X = addi (extui 32 (cmpf .ogt (k0_pay5 X) (broadcast S48x64x16x1792 (Scalar.ofBits (F := Ideal) .f32 0x3E800000#32))) natLt_1_32)
      (extui 32 (cmpf .oge (k0_pay5 X) (broadcast S48x64x16x1792 (Scalar.ofBits (F := Ideal) .f32 0x3F400000#32))) natLt_1_32) := by unfold k0_pay6; rfl
  rw [h6]
  generalize k0_pay5 X = V
  unfold mags refMag
  rw [addi_at, addi_at, addi_at, addi_at, addi_at, addi_at, ext_at, ext_at, ext_at, ext_at, ext_at, ext_at, ext_at,
    c_025, c_075, c_125, c_175, c_25, c_35, c_five]

theorem abs_at (A : FVec Ideal S48x64x16x1792 .f32) (j : S48x64x16x1792.Idx) : absf A j = max (A j) (-(A j)) := rfl

theorem sel_at (V : FVec Ideal S48x64x16x1792 .f32) (M : IVec S48x64x16x1792 32) (j : S48x64x16x1792.Idx) :
    select (andi (cmpf .olt V (broadcast S48x64x16x1792 (Scalar.ofBits (F := Ideal) .f32 0x00000000#32))) (cmpi .sgt M (broadcast S48x64x16x1792 0#32)))
      (ori M (broadcast S48x64x16x1792 8#32)) M j
    = Scalar.select (IntOp.andi (Ideal.cmp .olt (V j) (Ideal.ofBits .f32 0x00000000#32)) (IntOp.cmpi .sgt (M j) 0#32)) (IntOp.ori (M j) 8#32) (M j) := rfl

theorem codes_apply (j : S48x64x16x1792.Idx) :
    codes (k0_pay4 X) (k0_pay5 X) (k0_pay6 X) (Scalar.ofBits (F := Ideal) .f32 0x3FA00000#32) j = refCode (k0_pay4 X j) := by
  unfold codes
  rw [sel_at, mags_apply]
  unfold k0_pay5
  rw [abs_at, c_zero]
  unfold refCode
  rfl

theorem pay7_eq (v34 v35 : FVec Ideal S48x64x16x1792 .f32) (v42 : IVec S48x64x16x1792 32) (cst_14 : Ideal .f32) :
    k0_pay7 v34 v35 v42 cst_14 = trunci 8 (ori (shapeCast S48x512x1792 (extractStridedSlice S48x512x1x1792 ![0, 0, 0, 0]
        (shapeCast S48x512x2x1792 (codes v34 v35 v42 cst_14) shapeCasts_S48x64x16x1792_S48x512x2x1792) slices_S48x512x2x1792_o0_0_0_0_S48x512x1x1792) shapeCasts_S48x512x1x1792_S48x512x1792)
      (shli (shapeCast S48x512x1792 (extractStridedSlice S48x512x1x1792 ![0, 0, 1, 0]
        (shapeCast S48x512x2x1792 (codes v34 v35 v42 cst_14) shapeCasts_S48x64x16x1792_S48x512x2x1792) slices_S48x512x2x1792_o0_0_1_0_S48x512x1x1792) shapeCasts_S48x512x1x1792_S48x512x1792)
        (broadcast S48x512x1792 4#32))) natLt_8_32 := by
  unfold k0_pay7 codes mags; rfl

/-- Element `e` of the pair of byte row `j`. -/
theorem pair_apply (Z : IVec S48x64x16x1792 32) (b : Fin 48) (j : Fin 512) (e : Fin 2) (c : Fin 1792) :
    shapeCast S48x512x2x1792 Z shapeCasts_S48x64x16x1792_S48x512x2x1792 (ix4 b j e c)
      = Z (ix4 b (⟨(2 * j.val + e.val) / 16, by omega⟩ : Fin 64) (⟨(2 * j.val + e.val) % 16, by omega⟩ : Fin 16) c) :=
  shapeCast_apply _ shapeCasts_S48x64x16x1792_S48x512x2x1792 _ _ (by
    rw [Shape.rowMajor_val_four, Shape.rowMajor_val_four]
    show ((b.val * 64 + (2 * j.val + e.val) / 16) * 16 + (2 * j.val + e.val) % 16) * 1792 + c.val = ((b.val * 512 + j.val) * 2 + e.val) * 1792 + c.val
    omega)

theorem drop_apply (Y : IVec S48x512x1x1792 32) (b : Fin 48) (j : Fin 512) (c : Fin 1792) :
    shapeCast S48x512x1792 Y shapeCasts_S48x512x1x1792_S48x512x1792 (ix3 b j c) = Y (ix4 b j (0 : Fin 1) c) :=
  shapeCast_apply _ shapeCasts_S48x512x1x1792_S48x512x1792 _ _ (by
    rw [Shape.rowMajor_val_three, Shape.rowMajor_val_four]
    show ((b.val * 512 + j.val) * 1 + 0) * 1792 + c.val = (b.val * 512 + j.val) * 1792 + c.val
    omega)

/-- The reference's code of row `i`. -/
theorem code_apply (b : Fin 48) (i : Fin 1024) (c : Fin 1792) :
    codes (k0_pay4 X) (k0_pay5 X) (k0_pay6 X) (Scalar.ofBits (F := Ideal) .f32 0x3FA00000#32) (ix4 b (⟨i.val / 16, by omega⟩ : Fin 64) (⟨i.val % 16, by omega⟩ : Fin 16) c)
      = BitVec.ofNat 32 (codeE (valAt (gscale (amax X)) X b i c)) := by
  rw [codes_apply, pay4_apply]
  have e : row (⟨i.val / 16, by omega⟩ : Fin 64) (⟨i.val % 16, by omega⟩ : Fin 16) = i := Fin.ext (by show 16 * (i.val / 16) + i.val % 16 = i.val; omega)
  rw [e]
  obtain ⟨r, hr, -, -⟩ := clip_real (Ideal.div (X (ix3 b i c)) (eff (gscale (amax X)) (scaleAt (gscale (amax X)) X b (⟨i.val / 16, by omega⟩ : Fin 64) c)))
  unfold valAt val codeE
  rw [hr, refCode_eq, EReal.toReal_coe]

theorem pack (m n : ℕ) (hm : m < 16) (hn : n < 16) :
    (IntOp.ori (BitVec.ofNat 32 m) (IntOp.shli .vector (BitVec.ofNat 32 n) 4#32)).truncate 8 = byte m n := by
  have h : ∀ m n : Fin 16, (IntOp.ori (BitVec.ofNat 32 m.val) (IntOp.shli .vector (BitVec.ofNat 32 n.val) 4#32)).truncate 8 = BitVec.ofNat 8 (m.val + 16 * n.val) := by decide
  exact h ⟨m, hm⟩ ⟨n, hn⟩

/-- The reference's packed codes. -/
theorem pay7_apply (b : Fin 48) (j : Fin 512) (c : Fin 1792) :
    k0_pay7 (k0_pay4 X) (k0_pay5 X) (k0_pay6 X) (Scalar.ofBits (F := Ideal) .f32 0x3FA00000#32) (ix3 b j c) = byteAt (gscale (amax X)) X b c j := by
  rw [pay7_eq]
  have h0 := code_apply X b ⟨2 * j.val, by omega⟩ c
  have h1 := code_apply X b ⟨2 * j.val + 1, by omega⟩ c
  generalize codes (k0_pay4 X) (k0_pay5 X) (k0_pay6 X) (Scalar.ofBits (F := Ideal) .f32 0x3FA00000#32) = Z at h0 h1
  rw [show ∀ (A B C : IVec S48x512x1792 32) (j : S48x512x1792.Idx), trunci 8 (ori A (shli B C)) natLt_8_32 j = (IntOp.ori (A j) (IntOp.shli .vector (B j) (C j))).truncate 8 from fun _ _ _ _ => rfl]
  rw [drop_apply, drop_apply, slice4_axis2_apply 0 _ _ b j (0 : Fin 1) c (0 : Fin 2) rfl, slice4_axis2_apply 1 _ _ b j (0 : Fin 1) c (1 : Fin 2) rfl, pair_apply, pair_apply]
  refine (congrArg₂ (fun x y => (IntOp.ori x (IntOp.shli .vector y 4#32)).truncate 8) h0 h1).trans ?_
  exact pack _ _ (code_lt _) (code_lt _)

end Cert.ReferenceIdeal.Value

end
-- ==== Proof.RefRun.lean ====
/-
  The reference's run: every execution ends with the three results at the quantisation's values by coordinates.
-/
module

public import proofs.«01_k».proof.Proof.RefValue
public import proofs.«01_k».proof.Proof.Gen.ReferenceIdeal.Frame
public import Idealize.ShloMosaic.Lib.VecWindow
public import Idealize.ShloMosaic.Lib.WholeRead
public import Idealize.ShloMosaic.Lib.Pipeline.FrameTail
public import Idealize.ShloMosaic.Lib.Pipeline.RegionArraysS

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.ValueIdx
open Idealize.SL.Sem
open Idealize.ShloMosaic.Pipeline (Dat afterRegion)
open Cert.Code Cert.Spec Cert.ReferenceIdeal.Value

/-! ## What the body leaves -/

section Body

variable (c : Dev nD) (arg0 : Memref sig .tc .vmem S48x1024x1792 .bf16) (harg0 : arg0.IsWhole) (arg1 : Memref sig .tc .vmem S48x512x1792 .i8) (harg1 : arg1.IsWhole) (arg2 : Memref sig .tc .vmem S48x64x1792 .fp8e4m3) (harg2 : arg2.IsWhole) (arg3 : Memref sig .tc .smem S1x1 .f32) (harg3 : arg3.IsWhole)
  (x0 : Vec Ideal S48x1024x1792 .bf16)

theorem load0 : View.readAt (Elt Ideal) arg0.view (Rect.unit (s := S48x1024x1792) ![0, 0, 0] S48x1024x1792.size inb_S48x1024x1792_S48x1024x1792_0_0_0).toLoadRect (harg0.unread x0) = x0 :=
  (View.readAt_full arg0.view _ inb_S48x1024x1792_S48x1024x1792_0_0_0).trans (harg0.read_unread x0)

theorem out1 : out0_A_1 c arg0 harg0 arg1 harg1 arg2 harg2 arg3 harg3 x0
    = k0_pay7 (k0_pay4 x0) (k0_pay5 x0) (k0_pay6 x0) (Scalar.ofBits (F := Ideal) .f32 0x3FA00000#32) := by
  unfold out0_A_1 kernelRun0_A
  dsimp only
  refine (View.read_writes_full _ _ inb_S48x512x1792_S48x512x1792_0_0_0 _ _).trans ?_
  unfold kernelRun0_A.sl.r_2 kernelRun0_A.sl.r_3 kernelRun0_A.sl.r_4 kernelRun0_A.sl.cst_14
  rw [load0]

theorem out2 : out0_A_2 c arg0 harg0 arg1 harg1 arg2 harg2 arg3 harg3 x0 = k0_pay3 x0 := by
  unfold out0_A_2 kernelRun0_A
  dsimp only
  refine (View.read_writes_full _ _ inb_S48x64x1792_S48x64x1792_0_0_0 _ _).trans ?_
  unfold kernelRun0_A.sl.r_1
  rw [load0]

theorem out3 : out0_A_3 c arg0 harg0 arg1 harg1 arg2 harg2 arg3 harg3 x0 = fun _ => k0_pay1 x0 := by
  unfold out0_A_3 kernelRun0_A
  dsimp only
  refine (View.read_writes_full _ _ inb_S1x1_S1x1_0_0 _ _).trans ?_
  unfold kernelRun0_A.sl.r
  rw [load0]
  rfl

end Body

/-! ## The whole arrays -/

theorem index0 : ∀ t : Fin cfg0.N, win0_0.index t = ![0, 0, 0] :=
  (by decide +kernel : ∀ t : Fin grid0.N, win0_0.index t = ![0, 0, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0, 0] :=
  (by decide +kernel : ∀ t : Fin grid0.N, win0_2.index t = ![0, 0, 0])
theorem index3 : ∀ t : Fin cfg0.N, win0_3.index t = ![0, 0] :=
  (by decide +kernel : ∀ t : Fin grid0.N, win0_3.index t = ![0, 0])
theorem one_pt : ∀ t t' : Fin cfg0.N, t = t' :=
  (by decide +kernel : ∀ t t' : Fin grid0.N, t = t')

/-- The one grid point. -/
abbrev p0 : Fin cfg0.N := ⟨0, (by decide +kernel : 0 < grid0.N)⟩

variable (m : (ℓ : Loc nD τ sig) → Buf (Elt Ideal) ℓ) (ρ : Dev nD → PrngReg) (c : Dev nD)

/-- The tensor. -/
abbrev XA : Tensor := m ((c.tc : Thread nD τ).loc main_arg0)

theorem iblk0 : iblk m c 0 p0 = XA m c := by
  funext j
  unfold iblk
  refine congrArg (V m c (Pipeline.arrRef spec0 0)) (funext fun a => Fin.ext ?_)
  refine (win0_0.rect_emb_val p0 _ a).trans ?_
  rw [index0]
  match a with
  | ⟨0, _⟩ => show 0 * 48 + (j 0).val = (j 0).val; omega
  | ⟨1, _⟩ => show 0 * 1024 + (j 1).val = (j 1).val; omega
  | ⟨2, _⟩ => show 0 * 1792 + (j 2).val = (j 2).val; omega

theorem cut1 (P : Vec Ideal S48x512x1792 .i8) (b : Fin 48) (j : Fin 512) (col : Fin 1792) :
    (cfg0.win 1).cut (grid0.coords p0) P (ix3 b j col) = P (ix3 b j col) := rfl

theorem cut2 (P : Vec Ideal S48x64x1792 .fp8e4m3) (b : Fin 48) (k : Fin 64) (col : Fin 1792) :
    (cfg0.win 2).cut (grid0.coords p0) P (ix3 b k col) = P (ix3 b k col) := rfl

theorem packed_at (b : Fin 48) (j : Fin 512) (col : Fin 1792) :
    (dats m 0 c).arrAt 1 cfg0.N (ix3 b j col) = byteAt (gscale (amax (XA m c))) (XA m c) b col j := by
  have hemb : ((cfg0.win 1).blk p0).view.emb (ix3 b j col) = ix3 b j col := by
    refine funext fun a => Fin.ext ?_
    refine (win0_1.rect_emb_val p0 _ a).trans ?_
    rw [index1]
    match a with
    | ⟨0, _⟩ => show 0 * 48 + b.val = b.val; omega
    | ⟨1, _⟩ => show 0 * 512 + j.val = j.val; omega
    | ⟨2, _⟩ => show 0 * 1792 + col.val = col.val; omega
  have hval := (dats m 0 c).arrAt_emb_eq_flushed 1 (fun t t' _ _ hne => absurd (one_pt t t') hne) p0 (flush0_1 p0) (ix3 b j col)
  rw [hemb] at hval
  refine hval.trans ?_
  have hf : (dats m 0 c).flushed 1 p0 = (cfg0.win 1).cut (grid0.coords p0) ((outsAt0 m c p0).1) := by
    show (cfg0.win 1).cut (grid0.coords p0) ((dats m 0 c).after 1 p0) = _
    rw [after0_1]
  rw [hf]
  unfold outsAt0
  dsimp only
  rw [out1, iblk0]
  exact (cut1 _ b j col).trans (pay7_apply (XA m c) b j col)

/-- The block scales the body leaves, named. -/
theorem scale_ex (arg0 : Memref sig .tc .vmem S48x1024x1792 .bf16) (harg0 : arg0.IsWhole) (arg1 : Memref sig .tc .vmem S48x512x1792 .i8) (harg1 : arg1.IsWhole) (arg2 : Memref sig .tc .vmem S48x64x1792 .fp8e4m3) (harg2 : arg2.IsWhole) (arg3 : Memref sig .tc .smem S1x1 .f32) (harg3 : arg3.IsWhole) :
    ∃ P : Vec Ideal S48x64x1792 .fp8e4m3, out0_A_2 c arg0 harg0 arg1 harg1 arg2 harg2 arg3 harg3 (iblk m c 0 p0) = P
      ∧ ∀ b k col, P (ix3 b k col) = scaleAt (gscale (amax (XA m c))) (XA m c) b k col :=
  ⟨k0_pay3 (F := Ideal) (XA m c), by rw [out2, iblk0], pay3_apply (XA m c)⟩

theorem scale_at (b : Fin 48) (k : Fin 64) (col : Fin 1792) :
    (dats m 0 c).arrAt 2 cfg0.N (ix3 b k col) = scaleAt (gscale (amax (XA m c))) (XA m c) b k col := by
  have hemb : ((cfg0.win 2).blk p0).view.emb (ix3 b k col) = ix3 b k col := by
    refine funext fun a => Fin.ext ?_
    refine (win0_2.rect_emb_val p0 _ a).trans ?_
    rw [index2]
    match a with
    | ⟨0, _⟩ => show 0 * 48 + b.val = b.val; omega
    | ⟨1, _⟩ => show 0 * 64 + k.val = k.val; omega
    | ⟨2, _⟩ => show 0 * 1792 + col.val = col.val; omega
  have hval := (dats m 0 c).arrAt_emb_eq_flushed 2 (fun t t' _ _ hne => absurd (one_pt t t') hne) p0 (flush0_2 p0) (ix3 b k col)
  rw [hemb] at hval
  refine hval.trans ?_
  have hf : (dats m 0 c).flushed 2 p0 = (cfg0.win 2).cut (grid0.coords p0) ((outsAt0 m c p0).2.1) := by
    show (cfg0.win 2).cut (grid0.coords p0) ((dats m 0 c).after 2 p0) = _
    rw [after0_2]
  rw [hf]
  unfold outsAt0
  dsimp only
  obtain ⟨P, hP, hv⟩ := scale_ex m c (ms0_0 p0) (hs0_0 p0) (ms0_1 p0) (hs0_1 p0) (ms0_2 p0) (hs0_2 p0) (ms0_3 p0) (hs0_3 p0)
  rw [hP]
  exact (cut2 P b k col).trans (hv b k col)

theorem sg_at : (dats m 0 c).arrAt 3 cfg0.N (ix2 (0 : Fin 1) (0 : Fin 1)) = gscale (amax (XA m c)) := by
  have hemb : ((cfg0.win 3).blk p0).view.emb (ix2 (0 : Fin 1) (0 : Fin 1)) = ix2 (0 : Fin 1) (0 : Fin 1) :=
    funext fun a => Fin.ext (by
      match a with
      | ⟨0, _⟩ => rfl
      | ⟨1, _⟩ => rfl)
  have hval := (dats m 0 c).arrAt_emb_eq_flushed 3 (fun t t' _ _ hne => absurd (one_pt t t') hne) p0 (flush0_3 p0) (ix2 (0 : Fin 1) (0 : Fin 1))
  rw [hemb] at hval
  refine hval.trans ?_
  have hf : (dats m 0 c).flushed 3 p0 = (cfg0.win 3).cut (grid0.coords p0) ((outsAt0 m c p0).2.2) := by
    show (cfg0.win 3).cut (grid0.coords p0) ((dats m 0 c).after 3 p0) = _
    rw [after0_3]
  rw [hf]
  unfold outsAt0
  dsimp only
  rw [out3, iblk0, pay1_eq]
  generalize gscale (amax (XA m c)) = g
  rfl

/-! ## The run -/

/-- The buffers after the call. -/
abbrev W1 : Valuation τ sig (Elt Ideal) := afterRegion (dats m 0 c) (StableHlo.launchContents m c)

set_option backward.isDefEq.respectTransparency.types false in
theorem run : θ_run defs (onTc (τ := τ) (main (F := Ideal))) ⟨m, fun _ => 0, ρ⟩ (fun r => ∀ (c : Dev nD) (b : Ref sig .tc), b.isScoped = false →
      r.2.mem ((c.tc : Thread nD τ).loc b) = StableHlo.after hostOps1 (W1 m c) (Proc.devRef .tc b)) :=
  Pipeline.θ_run_frame_tail_nil cfgs (dats m) 0 launch0 defs₀ Variants.none m ρ main hostOps1 hostOps1_sub main_chain
    (fun c => (body_obligation m c).loose) (fun c => (dats m 0 c).share_full fun _ => rfl) (fun _ _ => rfl) (A_eq m) (fun _ _ => rfl)

theorem res0 : StableHlo.after hostOps1 (W1 m c) (Proc.devRef .tc main_v1)
    = transpose S48x1792x512 [0, 2, 1] ((dats m 0 c).arrAt 1 cfg0.N) transposes_S48x512x1792_S48x1792x512_0_2_1 := by
  unfold hostOps1
  after_region_results
  have h : W1 m c (Proc.devRef .tc main_v0_0) = (dats m 0 c).arrAt 1 cfg0.N := Pipeline.afterRegion_arr (dats m 0 c) _ launch0.win.arr_inj 1
  rw [h]

theorem res1 : StableHlo.after hostOps1 (W1 m c) (Proc.devRef .tc main_v2)
    = transpose S48x1792x64 [0, 2, 1] ((dats m 0 c).arrAt 2 cfg0.N) transposes_S48x64x1792_S48x1792x64_0_2_1 := by
  unfold hostOps1
  after_region_results
  have h : W1 m c (Proc.devRef .tc main_v0_1) = (dats m 0 c).arrAt 2 cfg0.N := Pipeline.afterRegion_arr (dats m 0 c) _ launch0.win.arr_inj 2
  rw [h]

theorem res2 : StableHlo.after hostOps1 (W1 m c) (Proc.devRef .tc main_v3)
    = shapeCast S_ ((dats m 0 c).arrAt 3 cfg0.N) shapeCasts_S1x1_S_ := by
  unfold hostOps1
  after_region_results
  have h : W1 m c (Proc.devRef .tc main_v0_2) = (dats m 0 c).arrAt 3 cfg0.N := Pipeline.afterRegion_arr (dats m 0 c) _ launch0.win.arr_inj 3
  rw [h]
  rfl

/-- The packed codes. -/
theorem packed : StableHlo.after hostOps1 (W1 m c) (Proc.devRef .tc main_v1) = packedA (gscale (amax (XA m c))) (XA m c) := by
  rw [res0]
  funext j
  obtain ⟨b, col, i, rfl⟩ : ∃ (b : Fin 48) (col : Fin 1792) (i : Fin 512), j = ix3 b col i := ⟨j 0, j 1, j 2, eq_ix3 j⟩
  refine (transpose_ix3_021_apply _ transposes_S48x512x1792_S48x1792x512_0_2_1 b col i).trans ?_
  refine (packed_at m c b i col).trans ?_
  rw [packedA_apply]

/-- The block scales. -/
theorem scales : StableHlo.after hostOps1 (W1 m c) (Proc.devRef .tc main_v2) = scaleA (gscale (amax (XA m c))) (XA m c) := by
  rw [res1]
  funext j
  obtain ⟨b, col, k, rfl⟩ : ∃ (b : Fin 48) (col : Fin 1792) (k : Fin 64), j = ix3 b col k := ⟨j 0, j 1, j 2, eq_ix3 j⟩
  refine (transpose_ix3_021_apply _ transposes_S48x64x1792_S48x1792x64_0_2_1 b col k).trans ?_
  refine (scale_at m c b k col).trans ?_
  rw [scaleA_apply]

/-- The global scale. -/
theorem global : StableHlo.after hostOps1 (W1 m c) (Proc.devRef .tc main_v3) = fun _ => gscale (amax (XA m c)) := by
  rw [res2]
  funext j
  refine (shapeCast_apply _ shapeCasts_S1x1_S_ j (ix2 (0 : Fin 1) (0 : Fin 1)) ?_).trans (sg_at m c)
  have h1 := (S1x1.rowMajor (ix2 (0 : Fin 1) (0 : Fin 1))).isLt
  have h2 := (S_.rowMajor j).isLt
  have e1 : S1x1.numel = 1 := rfl
  have e2 : S_.numel = 1 := rfl
  omega

/-- The argument. -/
theorem arg0 : StableHlo.after hostOps1 (W1 m c) (Proc.devRef .tc main_arg0) = m ((c.tc : Thread nD τ).loc main_arg0) := by
  have h : StableHlo.after hostOps1 (W1 m c) (Proc.devRef .tc main_arg0) = W1 m c (Proc.devRef .tc main_arg0) := by
    unfold hostOps1; after_results
  rw [h]
  exact Pipeline.afterRegion_keeps (dats m 0 c) (StableHlo.launchContents m c) launch0.win.arr_inj (fun w => A_eq m c w) main_arg0 (by decide)

end Cert.ReferenceIdeal.Run

end
-- ==== Proof.Alg.lean ====
/-
  The kernel and the reference end with equal results at exact arithmetic: both runs end at the quantisation's values
  by coordinates.
-/
module

public import proofs.«01_k».proof.Defs
public import proofs.«01_k».proof.Proof.IResults
public import proofs.«01_k».proof.Proof.RefRun
public import proofs.«01_k».proof.Proof.Gen.KernelIdeal
public import proofs.«01_k».proof.Proof.Gen.ReferenceIdeal

@[expose] public section

noncomputable section

namespace Cert.Alg

open Idealize.ShloMosaic Idealize.ShloMosaic.TcCoe Idealize.SL.Sem
open Cert.Spec

theorem algebraic [hKernelIdeal : Cert.KernelIdeal.Facts] [hReferenceIdeal : Cert.ReferenceIdeal.Facts] :
    Cert.algebraic_KernelIdeal_ReferenceIdeal := by
  intro m g m' g' _ hm
  refine ⟨fun c => packedA (gscale (amax (KernelIdeal.Run.XT m c))) (KernelIdeal.Run.XT m c), fun c => scaleA (gscale (amax (KernelIdeal.Run.XT m c))) (KernelIdeal.Run.XT m c),
    fun c _ => gscale (amax (KernelIdeal.Run.XT m c)), ?_, ?_⟩
  · exact (θ_run _ _ _).mono (fun r h c => ⟨(h.1 c KernelIdeal.main_v1_0 (by decide)).trans (KernelIdeal.Run.packed m c),
      (h.1 c KernelIdeal.main_v2 (by decide)).trans (KernelIdeal.Run.scales m c),
      (h.1 c KernelIdeal.main_v3 (by decide)).trans (KernelIdeal.Run.global m c),
      (h.1 c KernelIdeal.main_arg0 (by decide)).trans (KernelIdeal.Run.W3_arg0 m c)⟩) (KernelIdeal.Run.run m g)
  · refine (θ_run _ _ _).mono (fun r h c => ?_) (ReferenceIdeal.Run.run m' g')
    have hX : ReferenceIdeal.Run.XA m' c = KernelIdeal.Run.XT m c := hm c
    have h0 := (h c ReferenceIdeal.main_v1 (by decide)).trans (ReferenceIdeal.Run.packed m' c)
    have h1 := (h c ReferenceIdeal.main_v2 (by decide)).trans (ReferenceIdeal.Run.scales m' c)
    have h2 := (h c ReferenceIdeal.main_v3 (by decide)).trans (ReferenceIdeal.Run.global m' c)
    rw [hX] at h0 h1 h2
    exact ⟨h0, h1, h2, (h c ReferenceIdeal.main_arg0 (by decide)).trans (ReferenceIdeal.Run.arg0 m' c)⟩

end Cert.Alg

end
-- ==== Proof.lean ====
/-
  The claims: every program runs and leaves its argument alone; the idealized kernel is the kernel with one constant
  named; and at exact arithmetic the kernel and the reference end with equal results.
-/
module

public import proofs.«01_k».proof.Defs
public import proofs.«01_k».proof.Proof.BRun
public import proofs.«01_k».proof.Proof.IRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Alg

@[expose] public section

noncomputable section

namespace Cert.Proof

open Idealize.ShloMosaic Idealize.SL.Sem

theorem frame_p : Cert.quiescent_Kernel := fun m ρ _ => Cert.Kernel.Run.frame m ρ
theorem frame_pi : Cert.quiescent_KernelIdeal := fun m ρ _ => Cert.KernelIdeal.Run.frame m ρ
theorem frame_ri : Cert.quiescent_ReferenceIdeal := fun m ρ _ => Cert.ReferenceIdeal.Gen.frame m ρ

/-- The one constant named: the table gives `"inv_2688"` the value `1/2688`. -/
theorem preserves : Cert.preserves_Kernel_KernelIdeal :=
  IdealRules.named_const.statement Cert.KernelIdeal.κ "inv_2688" .f32 0x39C30C31#32 ((1 / 2688 : ℝ) : EReal) rfl

theorem claim : Cert.Claim := ⟨Cert.Kernel.Gen.facts, Cert.KernelIdeal.Gen.facts, Cert.ReferenceIdeal.Gen.facts,
  frame_p, frame_pi, frame_ri, preserves, Cert.Alg.algebraic⟩

end Cert.Proof

end
